-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S96x2x1024 Cert.KernelIdeal.S96x1x1024
  ∧ IdealRules.bf16_pair.PackStatement Cert.KernelIdeal.S16x256
  ∧ IdealRules.bf16_pair.Statement Cert.KernelIdeal.S16x2x256 Cert.KernelIdeal.S16x1x256
  ∧ IdealRules.bf16_pair.Statement Cert.KernelIdeal.S8x2x256 Cert.KernelIdeal.S8x1x256
  ∧ IdealRules.bf16_pair.Statement Cert.KernelIdeal.S16x256 Cert.KernelIdeal.S8x256

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 151936]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v7_0) i = v0 c i)
          ∧ (∀ i : (⟨2, ![256, 151936]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v7_1) i = v1 c i)
          ∧ (∀ i : (⟨3, ![1, 256, 1187]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v8) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 151936]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v82) i = v0 c i)
          ∧ (∀ i : (⟨2, ![256, 151936]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v120) i = v1 c i)
          ∧ (∀ i : (⟨3, ![1, 256, 1187]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v119) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S1x256x1536 : Shape := ⟨3, ![1, 256, 1536]⟩
abbrev S151936x6x2x64 : Shape := ⟨4, ![151936, 6, 2, 64]⟩
abbrev S151936x6x2x32 : Shape := ⟨4, ![151936, 6, 2, 32]⟩
abbrev S151936x6x16 : Shape := ⟨3, ![151936, 6, 16]⟩
abbrev S151936x6 : Shape := ⟨2, ![151936, 6]⟩
abbrev S151936x6x2x1x2x32 : Shape := ⟨6, ![151936, 6, 2, 1, 2, 32]⟩
abbrev S2 : Shape := ⟨1, ![2]⟩
abbrev S_ : Shape := ⟨0, ![]⟩
abbrev S1x1x1x2x1x1 : Shape := ⟨6, ![1, 1, 1, 2, 1, 1]⟩
abbrev S151936x6x2x2x2x32 : Shape := ⟨6, ![151936, 6, 2, 2, 2, 32]⟩
abbrev S151936x6x2x1x32 : Shape := ⟨5, ![151936, 6, 2, 1, 32]⟩
abbrev S4 : Shape := ⟨1, ![4]⟩
abbrev S1x1x1x4x1 : Shape := ⟨5, ![1, 1, 1, 4, 1]⟩
abbrev S151936x6x2x4x32 : Shape := ⟨5, ![151936, 6, 2, 4, 32]⟩
abbrev S151936x6x16x16 : Shape := ⟨4, ![151936, 6, 16, 16]⟩
abbrev S151936x6x1 : Shape := ⟨3, ![151936, 6, 1]⟩
abbrev S151936x6x16x1 : Shape := ⟨4, ![151936, 6, 16, 1]⟩
abbrev S151936x1536 : Shape := ⟨2, ![151936, 1536]⟩
abbrev S256x1536 : Shape := ⟨2, ![256, 1536]⟩
abbrev S256x151936 : Shape := ⟨2, ![256, 151936]⟩
abbrev S256x1187x128 : Shape := ⟨3, ![256, 1187, 128]⟩
abbrev S256x1187 : Shape := ⟨2, ![256, 1187]⟩
abbrev S256x1187x1 : Shape := ⟨3, ![256, 1187, 1]⟩
abbrev S1x256x1187 : Shape := ⟨3, ![1, 256, 1187]⟩

class Facts : Prop where
  natLt_8_32 : 8 < 32
  shapeCasts_S151936x6x2x64_S151936x6x2x1x2x32 : S151936x6x2x64.ShapeCasts S151936x6x2x1x2x32
  bcast_S_S2 : S_.BroadcastsInDim S2 (![] : Fin 0 → Fin S2.rank)
  shapeCasts_S2_S1x1x1x2x1x1 : S2.ShapeCasts S1x1x1x2x1x1
  bcast_S151936x6x2x1x2x32_S151936x6x2x2x2x32_0_1_2_3_4_5 : S151936x6x2x1x2x32.BroadcastsInDim S151936x6x2x2x2x32 (![0, 1, 2, 3, 4, 5] : Fin 6 → Fin S151936x6x2x2x2x32.rank)
  bcast_S1x1x1x2x1x1_S151936x6x2x2x2x32_0_1_2_3_4_5 : S1x1x1x2x1x1.BroadcastsInDim S151936x6x2x2x2x32 (![0, 1, 2, 3, 4, 5] : Fin 6 → Fin S151936x6x2x2x2x32.rank)
  shapeCasts_S151936x6x2x32_S151936x6x2x1x32 : S151936x6x2x32.ShapeCasts S151936x6x2x1x32
  bcast_S_S4 : S_.BroadcastsInDim S4 (![] : Fin 0 → Fin S4.rank)
  shapeCasts_S4_S1x1x1x4x1 : S4.ShapeCasts S1x1x1x4x1
  bcast_S151936x6x2x1x32_S151936x6x2x4x32_0_1_2_3_4 : S151936x6x2x1x32.BroadcastsInDim S151936x6x2x4x32 (![0, 1, 2, 3, 4] : Fin 5 → Fin S151936x6x2x4x32.rank)
  bcast_S1x1x1x4x1_S151936x6x2x4x32_0_1_2_3_4 : S1x1x1x4x1.BroadcastsInDim S151936x6x2x4x32 (![0, 1, 2, 3, 4] : Fin 5 → Fin S151936x6x2x4x32.rank)
  bcast_S_S151936x6x2x2x2x32 : S_.BroadcastsInDim S151936x6x2x2x2x32 (![] : Fin 0 → Fin S151936x6x2x2x2x32.rank)
  shapeCasts_S151936x6x2x2x2x32_S151936x6x2x4x32 : S151936x6x2x2x2x32.ShapeCasts S151936x6x2x4x32
  bcast_S_S151936x6x2x4x32 : S_.BroadcastsInDim S151936x6x2x4x32 (![] : Fin 0 → Fin S151936x6x2x4x32.rank)
  shapeCasts_S151936x6x2x4x32_S151936x6x16x16 : S151936x6x2x4x32.ShapeCasts S151936x6x16x16
  natLt_16_32 : 16 < 32
  bcast_S_S151936x6 : S_.BroadcastsInDim S151936x6 (![] : Fin 0 → Fin S151936x6.rank)
  bcast_S151936x6_S151936x6x1_0_1 : S151936x6.BroadcastsInDim S151936x6x1 (![0, 1] : Fin 2 → Fin S151936x6x1.rank)
  bcast_S151936x6x1_S151936x6x16_0_1_2 : S151936x6x1.BroadcastsInDim S151936x6x16 (![0, 1, 2] : Fin 3 → Fin S151936x6x16.rank)
  bitsLt_bf16_f32 : FTy.bits .bf16 < FTy.bits .f32
  bcast_S151936x6x16_S151936x6x16x1_0_1_2 : S151936x6x16.BroadcastsInDim S151936x6x16x1 (![0, 1, 2] : Fin 3 → Fin S151936x6x16x1.rank)
  bcast_S151936x6x16x1_S151936x6x16x16_0_1_2_3 : S151936x6x16x1.BroadcastsInDim S151936x6x16x16 (![0, 1, 2, 3] : Fin 4 → Fin S151936x6x16x16.rank)
  shapeCasts_S151936x6x16x16_S151936x1536 : S151936x6x16x16.ShapeCasts S151936x1536
  shapeCasts_S1x256x1536_S256x1536 : S1x256x1536.ShapeCasts S256x1536
  shapeCasts_S256x151936_S256x1187x128 : S256x151936.ShapeCasts S256x1187x128
  reducesTo_S256x1187x128_S256x1187_d2 : S256x1187x128.ReducesTo [2] S256x1187
  h_S_ : 0 < S_.numel
  bcast_S_S256x1187 : S_.BroadcastsInDim S256x1187 (![] : Fin 0 → Fin S256x1187.rank)
  bcast_S256x1187_S256x1187x1_0_1 : S256x1187.BroadcastsInDim S256x1187x1 (![0, 1] : Fin 2 → Fin S256x1187x1.rank)
  bcast_S256x1187x1_S256x1187x128_0_1_2 : S256x1187x1.BroadcastsInDim S256x1187x128 (![0, 1, 2] : Fin 3 → Fin S256x1187x128.rank)
  shapeCasts_S256x1187x128_S256x151936 : S256x1187x128.ShapeCasts S256x151936
  bcast_S_S256x151936 : S_.BroadcastsInDim S256x151936 (![] : Fin 0 → Fin S256x151936.rank)
  bcast_S256x1187_S1x256x1187_1_2 : S256x1187.BroadcastsInDim S1x256x1187 (![1, 2] : Fin 2 → Fin S1x256x1187.rank)
  dot_S256x1536_S151936x1536_S256x151936_1_1_0_0_n_n_wf : DotDims.WF S256x1536 S151936x1536 S256x151936 [1] [1] [0] [0] [] []

variable [Facts]

def dot_S256x1536_S151936x1536_S256x151936_1_1_0_0_n_n : DotDims S256x1536 S151936x1536 S256x151936 where
  lhsContracting := [1]
  rhsContracting := [1]
  lhsNonContracting := [0]
  rhsNonContracting := [0]
  lhsBatch := []
  rhsBatch := []
  wf := dot_S256x1536_S151936x1536_S256x151936_1_1_0_0_n_n_wf
def fn_where {F : FTy → Type} [FloatOps F] (arg0 : IVec S151936x6 1) (arg1 : FVec F S151936x6 .f32) (arg2 : FVec F S151936x6 .f32) : FVec F S151936x6 .f32 :=
  let v0 : FVec F S151936x6 .f32 := select arg0 arg1 arg2
  v0

def fn_where_0 {F : FTy → Type} [FloatOps F] (arg0 : IVec S151936x6 1) (arg1 : FVec F S_ .f32) (arg2 : FVec F S151936x6 .f32) : FVec F S151936x6 .f32 :=
  let v0 : FVec F S_ .f32 := id arg1
  let v1 : FVec F S151936x6 .f32 := broadcastInDim S151936x6 ![] bcast_S_S151936x6 v0
  let v2 : FVec F S151936x6 .f32 := select arg0 v1 arg2
  v2

def fn_part5 {F : FTy → Type} [FloatOps F] (main_v90 : IVec S256x1187 1) (main_v93 : IVec S256x151936 1) : IVec S256x151936 1 × IVec S256x151936 1 × IVec S1x256x1187 1 :=
  let main_c_24 : IVec S_ 1 := constantI S_ 1 1#1
  let main_v94 : IVec S256x151936 1 := broadcastInDim S256x151936 ![] bcast_S_S256x151936 main_c_24
  let main_v95 : IVec S1x256x1187 1 := broadcastInDim S1x256x1187 ![1, 2] bcast_S256x1187_S1x256x1187_1_2 main_v90
  (main_v94, main_v93, main_v95)

def fn_part4 {F : FTy → Type} [FloatOps F] (main_arg0 : FVec F S1x256x1536 .bf16) (main_v29 : FVec F S151936x6x16x16 .bf16) (main_v70 : FVec F S151936x6x1 .f32) (main_v72 : FVec F S151936x6x16 .f32) : IVec S256x151936 1 × IVec S256x151936 1 × IVec S1x256x1187 1 :=
  let main_v73 : FVec F S151936x6x16 .f32 := broadcastInDim S151936x6x16 ![0, 1, 2] bcast_S151936x6x1_S151936x6x16_0_1_2 main_v70
  let main_v74 : FVec F S151936x6x16 .f32 := mulf main_v73 main_v72
  let main_v75 : FVec F S151936x6x16 .bf16 := (truncf .bf16 · bitsLt_bf16_f32) main_v74
  let main_v76 : FVec F S151936x6x16x1 .bf16 := broadcastInDim S151936x6x16x1 ![0, 1, 2] bcast_S151936x6x16_S151936x6x16x1_0_1_2 main_v75
  let main_v77 : FVec F S151936x6x16x16 .bf16 := broadcastInDim S151936x6x16x16 ![0, 1, 2, 3] bcast_S151936x6x16x1_S151936x6x16x16_0_1_2_3 main_v76
  let main_v78 : FVec F S151936x6x16x16 .bf16 := mulf main_v29 main_v77
  let main_v79 : FVec F S151936x1536 .bf16 := shapeCast S151936x1536 main_v78 shapeCasts_S151936x6x16x16_S151936x1536
  let main_v80 : FVec F S256x1536 .bf16 := shapeCast S256x1536 main_arg0 shapeCasts_S1x256x1536_S256x1536
  let main_v81 : FVec F S256x151936 .f32 := (fun l r => Host.dotGeneral dot_S256x1536_S151936x1536_S256x151936_1_1_0_0_n_n none l r) main_v80 main_v79
  let main_v82 : FVec F S256x151936 .bf16 := (truncf .bf16 · bitsLt_bf16_f32) main_v81
  let main_v83 : FVec F S256x151936 .f32 := (extf .f32 · bitsLt_bf16_f32) main_v82
  let main_v84 : FVec F S256x1187x128 .f32 := shapeCast S256x1187x128 main_v83 shapeCasts_S256x151936_S256x1187x128
  let main_v85 : FVec F S256x1187x128 .f32 := Host.absf main_v84
  let main_cst_21 : FVec F S_ .f32 := constant S_ .f32 0xFF800000#32
  let main_v86 : FVec F S256x1187 .f32 := (fun x v => Host.reduce FloatOps.maximumf x v reducesTo_S256x1187x128_S256x1187_d2 h_S_) main_v85 main_cst_21
  let main_cst_22 : FVec F S_ .f32 := constant S_ .f32 0x3B124925#32
  let main_v87 : FVec F S256x1187 .f32 := broadcastInDim S256x1187 ![] bcast_S_S256x1187 main_cst_22
  let main_v88 : FVec F S256x1187 .f32 := mulf main_v86 main_v87
  let main_cst_23 : FVec F S_ .f32 := constant S_ .f32 0x7E800000#32
  let main_v89 : FVec F S256x1187 .f32 := broadcastInDim S256x1187 ![] bcast_S_S256x1187 main_cst_23
  let main_v90 : IVec S256x1187 1 := cmpf .olt main_v88 main_v89
  let main_v91 : IVec S256x1187x1 1 := broadcastInDim S256x1187x1 ![0, 1] bcast_S256x1187_S256x1187x1_0_1 main_v90
  let main_v92 : IVec S256x1187x128 1 := broadcastInDim S256x1187x128 ![0, 1, 2] bcast_S256x1187x1_S256x1187x128_0_1_2 main_v91
  let main_v93 : IVec S256x151936 1 := shapeCast S256x151936 main_v92 shapeCasts_S256x1187x128_S256x151936
  fn_part5 (F := F) main_v90 main_v93

def fn_part3 {F : FTy → Type} [FloatOps F] (main_arg0 : FVec F S1x256x1536 .bf16) (main_arg3 : IVec S151936x6x16 8) (main_v29 : FVec F S151936x6x16x16 .bf16) (main_v34 : IVec S151936x6 32) (main_v38 : IVec S151936x6 32) (main_v40 : IVec S151936x6 32) (main_v44 : FVec F S151936x6 .f32) (main_v53 : FVec F S151936x6 .f32) (main_v54 : IVec S151936x6 32) : IVec S256x151936 1 × IVec S256x151936 1 × IVec S1x256x1187 1 :=
  let main_v55 : IVec S151936x6 1 := cmpi .eq main_v38 main_v54
  let main_v56 : FVec F S151936x6 .f32 := fn_where (F := F) main_v55 main_v44 main_v53
  let main_c_15 : IVec S_ 32 := constantI S_ 32 31#32
  let main_v57 : IVec S151936x6 32 := broadcastInDim S151936x6 ![] bcast_S_S151936x6 main_c_15
  let main_v58 : IVec S151936x6 1 := cmpi .eq main_v38 main_v57
  let main_cst_16 : FVec F S_ .f32 := constant S_ .f32 0x7F800000#32
  let main_v59 : FVec F S151936x6 .f32 := fn_where_0 (F := F) main_v58 main_cst_16 main_v56
  let main_c_17 : IVec S_ 32 := constantI S_ 32 1#32
  let main_v60 : IVec S151936x6 32 := broadcastInDim S151936x6 ![] bcast_S_S151936x6 main_c_17
  let main_v61 : IVec S151936x6 1 := cmpi .eq main_v34 main_v60
  let main_v62 : FVec F S151936x6 .f32 := Host.negf main_v59
  let main_v63 : FVec F S151936x6 .f32 := fn_where (F := F) main_v61 main_v62 main_v59
  let main_c_18 : IVec S_ 32 := constantI S_ 32 31#32
  let main_v64 : IVec S151936x6 32 := broadcastInDim S151936x6 ![] bcast_S_S151936x6 main_c_18
  let main_v65 : IVec S151936x6 1 := cmpi .eq main_v38 main_v64
  let main_c_19 : IVec S_ 32 := constantI S_ 32 0#32
  let main_v66 : IVec S151936x6 32 := broadcastInDim S151936x6 ![] bcast_S_S151936x6 main_c_19
  let main_v67 : IVec S151936x6 1 := cmpi .ne main_v40 main_v66
  let main_v68 : IVec S151936x6 1 := andi main_v65 main_v67
  let main_cst_20 : FVec F S_ .f32 := constant S_ .f32 0x7FC00000#32
  let main_v69 : FVec F S151936x6 .f32 := fn_where_0 (F := F) main_v68 main_cst_20 main_v63
  let main_v70 : FVec F S151936x6x1 .f32 := broadcastInDim S151936x6x1 ![0, 1] bcast_S151936x6_S151936x6x1_0_1 main_v69
  let main_v71 : IVec S151936x6x16 32 := (extsi 32 · natLt_8_32) main_arg3
  let main_v72 : FVec F S151936x6x16 .f32 := sitofp .f32 main_v71
  fn_part4 (F := F) main_arg0 main_v29 main_v70 main_v72

def fn_part2 {F : FTy → Type} [FloatOps F] (main_arg0 : FVec F S1x256x1536 .bf16) (main_arg3 : IVec S151936x6x16 8) (main_v29 : FVec F S151936x6x16x16 .bf16) (main_v32 : IVec S151936x6 32) (main_v34 : IVec S151936x6 32) (main_v36 : IVec S151936x6 32) (main_v37 : IVec S151936x6 32) : IVec S256x151936 1 × IVec S256x151936 1 × IVec S1x256x1187 1 :=
  let main_v38 : IVec S151936x6 32 := andi main_v36 main_v37
  let main_c_9 : IVec S_ 32 := constantI S_ 32 1023#32
  let main_v39 : IVec S151936x6 32 := broadcastInDim S151936x6 ![] bcast_S_S151936x6 main_c_9
  let main_v40 : IVec S151936x6 32 := andi main_v32 main_v39
  let main_v41 : FVec F S151936x6 .f32 := sitofp .f32 main_v40
  let main_cst : FVec F S_ .f32 := constant S_ .f32 0x40000000#32
  let main_cst_10 : FVec F S_ .f32 := constant S_ .f32 0xC1C00000#32
  let main_v42 : FVec F S_ .f32 := Host.powf main_cst main_cst_10
  let main_v43 : FVec F S151936x6 .f32 := broadcastInDim S151936x6 ![] bcast_S_S151936x6 main_v42
  let main_v44 : FVec F S151936x6 .f32 := mulf main_v41 main_v43
  let main_c_11 : IVec S_ 32 := constantI S_ 32 1024#32
  let main_v45 : IVec S151936x6 32 := broadcastInDim S151936x6 ![] bcast_S_S151936x6 main_c_11
  let main_v46 : IVec S151936x6 32 := addi main_v40 main_v45
  let main_v47 : FVec F S151936x6 .f32 := sitofp .f32 main_v46
  let main_c_12 : IVec S_ 32 := constantI S_ 32 25#32
  let main_v48 : IVec S151936x6 32 := broadcastInDim S151936x6 ![] bcast_S_S151936x6 main_c_12
  let main_v49 : IVec S151936x6 32 := subi main_v38 main_v48
  let main_v50 : FVec F S151936x6 .f32 := sitofp .f32 main_v49
  let main_cst_13 : FVec F S_ .f32 := constant S_ .f32 0x40000000#32
  let main_v51 : FVec F S151936x6 .f32 := broadcastInDim S151936x6 ![] bcast_S_S151936x6 main_cst_13
  let main_v52 : FVec F S151936x6 .f32 := Host.powf main_v51 main_v50
  let main_v53 : FVec F S151936x6 .f32 := mulf main_v47 main_v52
  let main_c_14 : IVec S_ 32 := constantI S_ 32 0#32
  let main_v54 : IVec S151936x6 32 := broadcastInDim S151936x6 ![] bcast_S_S151936x6 main_c_14
  fn_part3 (F := F) main_arg0 main_arg3 main_v29 main_v34 main_v38 main_v40 main_v44 main_v53 main_v54

def fn_part1 {F : FTy → Type} [FloatOps F] (main_arg0 : FVec F S1x256x1536 .bf16) (main_arg3 : IVec S151936x6x16 8) (main_arg4 : IVec S151936x6 16) (main_v17 : IVec S151936x6x2x4x32 32) (main_v20 : IVec S151936x6x2x4x32 32) : IVec S256x151936 1 × IVec S256x151936 1 × IVec S1x256x1187 1 :=
  let main_c_2 : IVec S_ 32 := constantI S_ 32 3#32
  let main_v21 : IVec S151936x6x2x4x32 32 := broadcastInDim S151936x6x2x4x32 ![] bcast_S_S151936x6x2x4x32 main_c_2
  let main_v22 : IVec S151936x6x2x4x32 32 := andi main_v17 main_v21
  let main_c_3 : IVec S_ 32 := constantI S_ 32 4#32
  let main_v23 : IVec S151936x6x2x4x32 32 := broadcastInDim S151936x6x2x4x32 ![] bcast_S_S151936x6x2x4x32 main_c_3
  let main_v24 : IVec S151936x6x2x4x32 32 := Host.shli main_v22 main_v23
  let main_v25 : IVec S151936x6x2x4x32 32 := ori main_v20 main_v24
  let main_c_4 : IVec S_ 32 := constantI S_ 32 32#32
  let main_v26 : IVec S151936x6x2x4x32 32 := broadcastInDim S151936x6x2x4x32 ![] bcast_S_S151936x6x2x4x32 main_c_4
  let main_v27 : IVec S151936x6x2x4x32 32 := subi main_v25 main_v26
  let main_v28 : FVec F S151936x6x2x4x32 .bf16 := sitofp .bf16 main_v27
  let main_v29 : FVec F S151936x6x16x16 .bf16 := shapeCast S151936x6x16x16 main_v28 shapeCasts_S151936x6x2x4x32_S151936x6x16x16
  let main_v30 : IVec S151936x6 32 := (extsi 32 · natLt_16_32) main_arg4
  let main_c_5 : IVec S_ 32 := constantI S_ 32 65535#32
  let main_v31 : IVec S151936x6 32 := broadcastInDim S151936x6 ![] bcast_S_S151936x6 main_c_5
  let main_v32 : IVec S151936x6 32 := andi main_v30 main_v31
  let main_c_6 : IVec S_ 32 := constantI S_ 32 15#32
  let main_v33 : IVec S151936x6 32 := broadcastInDim S151936x6 ![] bcast_S_S151936x6 main_c_6
  let main_v34 : IVec S151936x6 32 := Host.shrsi main_v32 main_v33
  let main_c_7 : IVec S_ 32 := constantI S_ 32 10#32
  let main_v35 : IVec S151936x6 32 := broadcastInDim S151936x6 ![] bcast_S_S151936x6 main_c_7
  let main_v36 : IVec S151936x6 32 := Host.shrsi main_v32 main_v35
  let main_c_8 : IVec S_ 32 := constantI S_ 32 31#32
  let main_v37 : IVec S151936x6 32 := broadcastInDim S151936x6 ![] bcast_S_S151936x6 main_c_8
  fn_part2 (F := F) main_arg0 main_arg3 main_v29 main_v32 main_v34 main_v36 main_v37

def fn {F : FTy → Type} [FloatOps F] (main_arg0 : FVec F S1x256x1536 .bf16) (main_arg1 : IVec S151936x6x2x64 8) (main_arg2 : IVec S151936x6x2x32 8) (main_arg3 : IVec S151936x6x16 8) (main_arg4 : IVec S151936x6 16) : IVec S256x151936 1 × IVec S256x151936 1 × IVec S1x256x1187 1 :=
  let main_v0 : IVec S151936x6x2x64 32 := (extui 32 · natLt_8_32) main_arg1
  let main_v1 : IVec S151936x6x2x1x2x32 32 := shapeCast S151936x6x2x1x2x32 main_v0 shapeCasts_S151936x6x2x64_S151936x6x2x1x2x32
  let main_v2 : IVec S2 32 := iotaInDim S2 32 0
  let main_c : IVec S_ 32 := constantI S_ 32 4#32
  let main_v3 : IVec S2 32 := broadcastInDim S2 ![] bcast_S_S2 main_c
  let main_v4 : IVec S2 32 := muli main_v3 main_v2
  let main_v5 : IVec S1x1x1x2x1x1 32 := shapeCast S1x1x1x2x1x1 main_v4 shapeCasts_S2_S1x1x1x2x1x1
  let main_v6 : IVec S151936x6x2x2x2x32 32 := broadcastInDim S151936x6x2x2x2x32 ![0, 1, 2, 3, 4, 5] bcast_S151936x6x2x1x2x32_S151936x6x2x2x2x32_0_1_2_3_4_5 main_v1
  let main_v7 : IVec S151936x6x2x2x2x32 32 := broadcastInDim S151936x6x2x2x2x32 ![0, 1, 2, 3, 4, 5] bcast_S1x1x1x2x1x1_S151936x6x2x2x2x32_0_1_2_3_4_5 main_v5
  let main_v8 : IVec S151936x6x2x2x2x32 32 := Host.shrsi main_v6 main_v7
  let main_v9 : IVec S151936x6x2x32 32 := (extui 32 · natLt_8_32) main_arg2
  let main_v10 : IVec S151936x6x2x1x32 32 := shapeCast S151936x6x2x1x32 main_v9 shapeCasts_S151936x6x2x32_S151936x6x2x1x32
  let main_v11 : IVec S4 32 := iotaInDim S4 32 0
  let main_c_0 : IVec S_ 32 := constantI S_ 32 2#32
  let main_v12 : IVec S4 32 := broadcastInDim S4 ![] bcast_S_S4 main_c_0
  let main_v13 : IVec S4 32 := muli main_v12 main_v11
  let main_v14 : IVec S1x1x1x4x1 32 := shapeCast S1x1x1x4x1 main_v13 shapeCasts_S4_S1x1x1x4x1
  let main_v15 : IVec S151936x6x2x4x32 32 := broadcastInDim S151936x6x2x4x32 ![0, 1, 2, 3, 4] bcast_S151936x6x2x1x32_S151936x6x2x4x32_0_1_2_3_4 main_v10
  let main_v16 : IVec S151936x6x2x4x32 32 := broadcastInDim S151936x6x2x4x32 ![0, 1, 2, 3, 4] bcast_S1x1x1x4x1_S151936x6x2x4x32_0_1_2_3_4 main_v14
  let main_v17 : IVec S151936x6x2x4x32 32 := Host.shrsi main_v15 main_v16
  let main_c_1 : IVec S_ 32 := constantI S_ 32 15#32
  let main_v18 : IVec S151936x6x2x2x2x32 32 := broadcastInDim S151936x6x2x2x2x32 ![] bcast_S_S151936x6x2x2x2x32 main_c_1
  let main_v19 : IVec S151936x6x2x2x2x32 32 := andi main_v8 main_v18
  let main_v20 : IVec S151936x6x2x4x32 32 := shapeCast S151936x6x2x4x32 main_v19 shapeCasts_S151936x6x2x2x2x32_S151936x6x2x4x32
  fn_part1 (F := F) main_arg0 main_arg3 main_arg4 main_v17 main_v20
-- ==== Kernel.lean ====
abbrev S1x256x1536 : Shape := ⟨3, ![1, 256, 1536]⟩
abbrev S151936x6x2x64 : Shape := ⟨4, ![151936, 6, 2, 64]⟩
abbrev S151936x6x2x32 : Shape := ⟨4, ![151936, 6, 2, 32]⟩
abbrev S151936x6x16 : Shape := ⟨3, ![151936, 6, 16]⟩
abbrev S151936x6 : Shape := ⟨2, ![151936, 6]⟩
abbrev S6x2x64x151936 : Shape := ⟨4, ![6, 2, 64, 151936]⟩
abbrev S768x151936 : Shape := ⟨2, ![768, 151936]⟩
abbrev S6x2x32x151936 : Shape := ⟨4, ![6, 2, 32, 151936]⟩
abbrev S384x151936 : Shape := ⟨2, ![384, 151936]⟩
abbrev S6x16x151936 : Shape := ⟨3, ![6, 16, 151936]⟩
abbrev S6x151936 : Shape := ⟨2, ![6, 151936]⟩
abbrev S256x1536 : Shape := ⟨2, ![256, 1536]⟩
abbrev S256x151936 : Shape := ⟨2, ![256, 151936]⟩
abbrev S1187x1x256 : Shape := ⟨3, ![1187, 1, 256]⟩
abbrev S768x1024 : Shape := ⟨2, ![768, 1024]⟩
abbrev S384x1024 : Shape := ⟨2, ![384, 1024]⟩
abbrev S6x16x1024 : Shape := ⟨3, ![6, 16, 1024]⟩
abbrev S6x1024 : Shape := ⟨2, ![6, 1024]⟩
abbrev S256x1024 : Shape := ⟨2, ![256, 1024]⟩
abbrev S8x1x256 : Shape := ⟨3, ![8, 1, 256]⟩
abbrev S96x1024 : Shape := ⟨2, ![96, 1024]⟩
abbrev S6x256 : Shape := ⟨2, ![6, 256]⟩
abbrev S1x256 : Shape := ⟨2, ![1, 256]⟩
abbrev S1x16x256 : Shape := ⟨3, ![1, 16, 256]⟩
abbrev S16x256 : Shape := ⟨2, ![16, 256]⟩
abbrev S64x256 : Shape := ⟨2, ![64, 256]⟩
abbrev S8x256 : Shape := ⟨2, ![8, 256]⟩
abbrev S32x256 : Shape := ⟨2, ![32, 256]⟩
abbrev S1536x256 : Shape := ⟨2, ![1536, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x1x256 : Shape := ⟨3, ![1, 1, 256]⟩
abbrev S1x256x1187 : Shape := ⟨3, ![1, 256, 1187]⟩

abbrev nBuf : Space → Nat
  | .hbm => 16
  | .vmem => 16
  | .smem => 0
  | _ => 0

abbrev bufTy : (tb : Table) → Fin (tcTables nBuf tb) → BufTy
  | .hbm, ⟨0, _⟩ => ⟨S1x256x1536, .bf16⟩
  | .hbm, ⟨1, _⟩ => ⟨S151936x6x2x64, .i8⟩
  | .hbm, ⟨2, _⟩ => ⟨S151936x6x2x32, .i8⟩
  | .hbm, ⟨3, _⟩ => ⟨S151936x6x16, .i8⟩
  | .hbm, ⟨4, _⟩ => ⟨S151936x6, .i16⟩
  | .hbm, ⟨5, _⟩ => ⟨S6x2x64x151936, .i8⟩
  | .hbm, ⟨6, _⟩ => ⟨S768x151936, .i8⟩
  | .hbm, ⟨7, _⟩ => ⟨S6x2x32x151936, .i8⟩
  | .hbm, ⟨8, _⟩ => ⟨S384x151936, .i8⟩
  | .hbm, ⟨9, _⟩ => ⟨S6x16x151936, .i8⟩
  | .hbm, ⟨10, _⟩ => ⟨S6x151936, .i16⟩
  | .hbm, ⟨11, _⟩ => ⟨S256x1536, .bf16⟩
  | .hbm, ⟨12, _⟩ => ⟨S256x151936, .bf16⟩
  | .hbm, ⟨13, _⟩ => ⟨S256x151936, .fp8e4m3⟩
  | .hbm, ⟨14, _⟩ => ⟨S1187x1x256, .f32⟩
  | .hbm, ⟨15, _⟩ => ⟨S1x256x1187, .f32⟩
  | .local _ .vmem, ⟨0, _⟩ => ⟨S256x1536, .bf16⟩
  | .local _ .vmem, ⟨1, _⟩ => ⟨S768x1024, .i8⟩
  | .local _ .vmem, ⟨2, _⟩ => ⟨S768x1024, .i8⟩
  | .local _ .vmem, ⟨3, _⟩ => ⟨S384x1024, .i8⟩
  | .local _ .vmem, ⟨4, _⟩ => ⟨S384x1024, .i8⟩
  | .local _ .vmem, ⟨5, _⟩ => ⟨S6x16x1024, .i8⟩
  | .local _ .vmem, ⟨6, _⟩ => ⟨S6x16x1024, .i8⟩
  | .local _ .vmem, ⟨7, _⟩ => ⟨S6x1024, .i16⟩
  | .local _ .vmem, ⟨8, _⟩ => ⟨S6x1024, .i16⟩
  | .local _ .vmem, ⟨9, _⟩ => ⟨S256x1024, .bf16⟩
  | .local _ .vmem, ⟨10, _⟩ => ⟨S256x1024, .bf16⟩
  | .local _ .vmem, ⟨11, _⟩ => ⟨S256x1024, .fp8e4m3⟩
  | .local _ .vmem, ⟨12, _⟩ => ⟨S256x1024, .fp8e4m3⟩
  | .local _ .vmem, ⟨13, _⟩ => ⟨S8x1x256, .f32⟩
  | .local _ .vmem, ⟨14, _⟩ => ⟨S8x1x256, .f32⟩
  | .local _ .vmem, ⟨15, _⟩ => ⟨S96x1024, .i32⟩
  | _, _ => ⟨S1x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![149], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x16x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x1024 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S96x2x1024 : Shape := ⟨3, ![96, 2, 1024]⟩
abbrev S96x1x1024 : Shape := ⟨3, ![96, 1, 1024]⟩
abbrev S16x2x256 : Shape := ⟨3, ![16, 2, 256]⟩
abbrev S16x1x256 : Shape := ⟨3, ![16, 1, 256]⟩
abbrev S8x2x256 : Shape := ⟨3, ![8, 2, 256]⟩
  | .local _ .vmem, ⟨15, _⟩ => ⟨S96x2x1024, .bf16⟩
variable {F : FTy → Type} [FloatOps F]
-- ==== ReferenceIdeal.lean ====
abbrev S1x256x1536 : Shape := ⟨3, ![1, 256, 1536]⟩
abbrev S151936x6x2x64 : Shape := ⟨4, ![151936, 6, 2, 64]⟩
abbrev S151936x6x2x32 : Shape := ⟨4, ![151936, 6, 2, 32]⟩
abbrev S151936x6x16 : Shape := ⟨3, ![151936, 6, 16]⟩
abbrev S151936x6 : Shape := ⟨2, ![151936, 6]⟩
abbrev S151936x6x2x1x2x32 : Shape := ⟨6, ![151936, 6, 2, 1, 2, 32]⟩
abbrev S2 : Shape := ⟨1, ![2]⟩
abbrev S_ : Shape := ⟨0, ![]⟩
abbrev S1x1x1x2x1x1 : Shape := ⟨6, ![1, 1, 1, 2, 1, 1]⟩
abbrev S151936x6x2x2x2x32 : Shape := ⟨6, ![151936, 6, 2, 2, 2, 32]⟩
abbrev S151936x6x2x1x32 : Shape := ⟨5, ![151936, 6, 2, 1, 32]⟩
abbrev S4 : Shape := ⟨1, ![4]⟩
abbrev S1x1x1x4x1 : Shape := ⟨5, ![1, 1, 1, 4, 1]⟩
abbrev S151936x6x2x4x32 : Shape := ⟨5, ![151936, 6, 2, 4, 32]⟩
abbrev S151936x6x16x16 : Shape := ⟨4, ![151936, 6, 16, 16]⟩
abbrev S151936x6x1 : Shape := ⟨3, ![151936, 6, 1]⟩
abbrev S151936x6x16x1 : Shape := ⟨4, ![151936, 6, 16, 1]⟩
abbrev S151936x1536 : Shape := ⟨2, ![151936, 1536]⟩
abbrev S256x1536 : Shape := ⟨2, ![256, 1536]⟩
abbrev S256x151936 : Shape := ⟨2, ![256, 151936]⟩
abbrev S256x1187x128 : Shape := ⟨3, ![256, 1187, 128]⟩
abbrev S256x1187 : Shape := ⟨2, ![256, 1187]⟩
abbrev S255 : Shape := ⟨1, ![255]⟩
abbrev S256x1187x1 : Shape := ⟨3, ![256, 1187, 1]⟩
abbrev S1x1x255 : Shape := ⟨3, ![1, 1, 255]⟩
abbrev S256x1187x255 : Shape := ⟨3, ![256, 1187, 255]⟩
abbrev S1x256x1187 : Shape := ⟨3, ![1, 256, 1187]⟩

abbrev nBuf : Space → Nat
  | .hbm => 176
  | .vmem => 2
  | .smem => 0
  | _ => 0

abbrev hbmTy0_0 (i : Nat) : BufTy := match i % 128 with
  | 0 => ⟨S1x256x1536, .bf16⟩
  | 1 => ⟨S151936x6x2x64, .i8⟩
  | 2 => ⟨S151936x6x2x32, .i8⟩
  | 3 => ⟨S151936x6x16, .i8⟩
  | 4 => ⟨S151936x6, .i16⟩
  | 5 => ⟨S151936x6x2x64, .i32⟩
  | 6 => ⟨S151936x6x2x1x2x32, .i32⟩
  | 7 => ⟨S2, .i32⟩
  | 8 => ⟨S_, .i32⟩
  | 9 => ⟨S2, .i32⟩
  | 10 => ⟨S2, .i32⟩
  | 11 => ⟨S1x1x1x2x1x1, .i32⟩
  | 12 => ⟨S151936x6x2x2x2x32, .i32⟩
  | 13 => ⟨S151936x6x2x2x2x32, .i32⟩
  | 14 => ⟨S151936x6x2x2x2x32, .i32⟩
  | 15 => ⟨S151936x6x2x32, .i32⟩
  | 16 => ⟨S151936x6x2x1x32, .i32⟩
  | 17 => ⟨S4, .i32⟩
  | 18 => ⟨S_, .i32⟩
  | 19 => ⟨S4, .i32⟩
  | 20 => ⟨S4, .i32⟩
  | 21 => ⟨S1x1x1x4x1, .i32⟩
  | 22 => ⟨S151936x6x2x4x32, .i32⟩
  | 23 => ⟨S151936x6x2x4x32, .i32⟩
  | 24 => ⟨S151936x6x2x4x32, .i32⟩
  | 25 => ⟨S_, .i32⟩
  | 26 => ⟨S151936x6x2x2x2x32, .i32⟩
  | 27 => ⟨S151936x6x2x2x2x32, .i32⟩
  | 28 => ⟨S151936x6x2x4x32, .i32⟩
  | 29 => ⟨S_, .i32⟩
  | 30 => ⟨S151936x6x2x4x32, .i32⟩
  | 31 => ⟨S151936x6x2x4x32, .i32⟩
  | 32 => ⟨S_, .i32⟩
  | 33 => ⟨S151936x6x2x4x32, .i32⟩
  | 34 => ⟨S151936x6x2x4x32, .i32⟩
  | 35 => ⟨S151936x6x2x4x32, .i32⟩
  | 36 => ⟨S_, .i32⟩
  | 37 => ⟨S151936x6x2x4x32, .i32⟩
  | 38 => ⟨S151936x6x2x4x32, .i32⟩
  | 39 => ⟨S151936x6x2x4x32, .bf16⟩
  | 40 => ⟨S151936x6x16x16, .bf16⟩
  | 41 => ⟨S151936x6, .i32⟩
  | 42 => ⟨S_, .i32⟩
  | 43 => ⟨S151936x6, .i32⟩
  | 44 => ⟨S151936x6, .i32⟩
  | 45 => ⟨S_, .i32⟩
  | 46 => ⟨S151936x6, .i32⟩
  | 47 => ⟨S151936x6, .i32⟩
  | 48 => ⟨S_, .i32⟩
  | 49 => ⟨S151936x6, .i32⟩
  | 50 => ⟨S151936x6, .i32⟩
  | 51 => ⟨S_, .i32⟩
  | 52 => ⟨S151936x6, .i32⟩
  | 53 => ⟨S151936x6, .i32⟩
  | 54 => ⟨S_, .i32⟩
  | 55 => ⟨S151936x6, .i32⟩
  | 56 => ⟨S151936x6, .i32⟩
  | 57 => ⟨S151936x6, .f32⟩
  | 58 => ⟨S_, .f32⟩
  | 59 => ⟨S_, .f32⟩
  | 60 => ⟨S_, .f32⟩
  | 61 => ⟨S151936x6, .f32⟩
  | 62 => ⟨S151936x6, .f32⟩
  | 63 => ⟨S_, .i32⟩
  | 64 => ⟨S151936x6, .i32⟩
  | 65 => ⟨S151936x6, .i32⟩
  | 66 => ⟨S151936x6, .f32⟩
  | 67 => ⟨S_, .i32⟩
  | 68 => ⟨S151936x6, .i32⟩
  | 69 => ⟨S151936x6, .i32⟩
  | 70 => ⟨S151936x6, .f32⟩
  | 71 => ⟨S_, .f32⟩
  | 72 => ⟨S151936x6, .f32⟩
  | 73 => ⟨S151936x6, .f32⟩
  | 74 => ⟨S151936x6, .f32⟩
  | 75 => ⟨S_, .i32⟩
  | 76 => ⟨S151936x6, .i32⟩
  | 77 => ⟨S151936x6, .i1⟩
  | 78 => ⟨S151936x6, .f32⟩
  | 79 => ⟨S_, .i32⟩
  | 80 => ⟨S151936x6, .i32⟩
  | 81 => ⟨S151936x6, .i1⟩
  | 82 => ⟨S_, .f32⟩
  | 83 => ⟨S_, .f32⟩
  | 84 => ⟨S151936x6, .f32⟩
  | 85 => ⟨S151936x6, .f32⟩
  | 86 => ⟨S_, .i32⟩
  | 87 => ⟨S151936x6, .i32⟩
  | 88 => ⟨S151936x6, .i1⟩
  | 89 => ⟨S151936x6, .f32⟩
  | 90 => ⟨S151936x6, .f32⟩
  | 91 => ⟨S_, .i32⟩
  | 92 => ⟨S151936x6, .i32⟩
  | 93 => ⟨S151936x6, .i1⟩
  | 94 => ⟨S_, .i32⟩
  | 95 => ⟨S151936x6, .i32⟩
  | 96 => ⟨S151936x6, .i1⟩
  | 97 => ⟨S151936x6, .i1⟩
  | 98 => ⟨S_, .f32⟩
  | 99 => ⟨S_, .f32⟩
  | 100 => ⟨S151936x6, .f32⟩
  | 101 => ⟨S151936x6, .f32⟩
  | 102 => ⟨S151936x6x1, .f32⟩
  | 103 => ⟨S151936x6x16, .i32⟩
  | 104 => ⟨S151936x6x16, .f32⟩
  | 105 => ⟨S151936x6x16, .f32⟩
  | 106 => ⟨S151936x6x16, .f32⟩
  | 107 => ⟨S151936x6x16, .bf16⟩
  | 108 => ⟨S151936x6x16x1, .bf16⟩
  | 109 => ⟨S151936x6x16x16, .bf16⟩
  | 110 => ⟨S151936x6x16x16, .bf16⟩
  | 111 => ⟨S151936x1536, .bf16⟩
  | 112 => ⟨S256x1536, .bf16⟩
  | 113 => ⟨S256x151936, .f32⟩
  | 114 => ⟨S256x151936, .bf16⟩
  | 115 => ⟨S256x151936, .f32⟩
  | 116 => ⟨S256x1187x128, .f32⟩
  | 117 => ⟨S256x1187x128, .f32⟩
  | 118 => ⟨S_, .f32⟩
  | 119 => ⟨S256x1187, .f32⟩
  | 120 => ⟨S_, .f32⟩
  | 121 => ⟨S256x1187, .f32⟩
  | 122 => ⟨S256x1187, .f32⟩
  | 123 => ⟨S_, .f32⟩
  | 124 => ⟨S256x1187, .f32⟩
  | 125 => ⟨S256x1187, .i1⟩
  | 126 => ⟨S255, .i32⟩
  | 127 => ⟨S_, .i32⟩
  | _ => ⟨S1x256x1536, .bf16⟩

abbrev hbmTy0_1 (i : Nat) : BufTy := match i % 128 with
  | 0 => ⟨S255, .i32⟩
  | 1 => ⟨S255, .i32⟩
  | 2 => ⟨S255, .f32⟩
  | 3 => ⟨S_, .f32⟩
  | 4 => ⟨S255, .f32⟩
  | 5 => ⟨S255, .f32⟩
  | 6 => ⟨S256x1187x1, .f32⟩
  | 7 => ⟨S1x1x255, .f32⟩
  | 8 => ⟨S256x1187x255, .f32⟩
  | 9 => ⟨S256x1187x255, .f32⟩
  | 10 => ⟨S256x1187x255, .i1⟩
  | 11 => ⟨S_, .f32⟩
  | 12 => ⟨S_, .f32⟩
  | 13 => ⟨S256x1187x255, .f32⟩
  | 14 => ⟨S256x1187x255, .f32⟩
  | 15 => ⟨S256x1187x255, .f32⟩
  | 16 => ⟨S_, .f32⟩
  | 17 => ⟨S256x1187, .f32⟩
  | 18 => ⟨S_, .f32⟩
  | 19 => ⟨S256x1187, .f32⟩
  | 20 => ⟨S256x1187, .f32⟩
  | 21 => ⟨S_, .i32⟩
  | 22 => ⟨S_, .f32⟩
  | 23 => ⟨S256x1187, .f32⟩
  | 24 => ⟨S256x1187, .f32⟩
  | 25 => ⟨S_, .f32⟩
  | 26 => ⟨S256x1187, .f32⟩
  | 27 => ⟨S256x1187, .f32⟩
  | 28 => ⟨S256x1187, .f32⟩
  | 29 => ⟨S_, .f32⟩
  | 30 => ⟨S256x1187, .f32⟩
  | 31 => ⟨S256x1187, .f32⟩
  | 32 => ⟨S256x151936, .f32⟩
  | 33 => ⟨S256x1187x128, .f32⟩
  | 34 => ⟨S256x1187x1, .f32⟩
  | 35 => ⟨S256x1187x128, .f32⟩
  | 36 => ⟨S256x1187x128, .f32⟩
  | 37 => ⟨S_, .f32⟩
  | 38 => ⟨S_, .f32⟩
  | 39 => ⟨S_, .f32⟩
  | 40 => ⟨S256x1187x128, .f32⟩
  | 41 => ⟨S256x1187x128, .f32⟩
  | 42 => ⟨S_, .f32⟩
  | 43 => ⟨S256x1187x128, .f32⟩
  | 44 => ⟨S256x1187x128, .f32⟩
  | 45 => ⟨S256x151936, .f32⟩
  | 46 => ⟨S1x256x1187, .f32⟩
  | 47 => ⟨S256x151936, .fp8e4m3⟩
  | _ => ⟨S1x256x1536, .bf16⟩

abbrev hbmTy (i : Nat) : BufTy := match i / 128 with
  | 0 => hbmTy0_0 i
  | 1 => hbmTy0_1 i
  | _ => ⟨S1x256x1536, .bf16⟩

abbrev bufTy : (tb : Table) → Fin (tcTables nBuf tb) → BufTy
  | .hbm, ⟨i, _⟩ => hbmTy i
  | .local _ .vmem, ⟨0, _⟩ => ⟨S256x151936, .f32⟩
  | .local _ .vmem, ⟨1, _⟩ => ⟨S256x151936, .fp8e4m3⟩
  | _, _ => ⟨S1x256x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_call1_v0 : Ref sig .tc := ⟨.hbm, 83, rfl⟩
abbrev main_call1_v1 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_18 : Ref sig .tc := ⟨.hbm, 91, rfl⟩
abbrev main_v64 : Ref sig .tc := ⟨.hbm, 92, rfl⟩
abbrev main_v65 : Ref sig .tc := ⟨.hbm, 93, rfl⟩
abbrev main_c_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_call3_v0 : Ref sig .tc := ⟨.hbm, 99, rfl⟩
abbrev main_call3_v1 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_24 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_25 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_26 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_cst_28 : Ref sig .tc := ⟨.hbm, 146, rfl⟩
abbrev main_v104 : Ref sig .tc := ⟨.hbm, 147, rfl⟩
abbrev main_v105 : Ref sig .tc := ⟨.hbm, 148, rfl⟩
abbrev main_c_29 : Ref sig .tc := ⟨.hbm, 149, rfl⟩
abbrev main_call5_v0 : Ref sig .tc := ⟨.hbm, 150, rfl⟩
abbrev main_call5_v1 : Ref sig .tc := ⟨.hbm, 151, rfl⟩
abbrev main_v106 : Ref sig .tc := ⟨.hbm, 152, rfl⟩
abbrev main_cst_30 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_31 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_32 : Ref sig .tc := ⟨.hbm, 165, rfl⟩
abbrev main_cst_33 : Ref sig .tc := ⟨.hbm, 166, rfl⟩
abbrev main_call6_v0 : Ref sig .tc := ⟨.hbm, 167, rfl⟩
abbrev main_call6_v1 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x151936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x151936 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Points
public import proofs.«01_k».proof.Proof.Gen.Kernel.Skeleton
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.Kernel.Gen

variable {F : FTy → Type} [BitOps F]

local notation "𝕄" => MT nD τ sig Unit (Elt F) ℕ (UR sig nD τ) ℕ

set_option maxHeartbeats 2000000 in
/-- The kernel body runs on whole buffers: it leaves its inputs as they were and something in its outputs and in
    its scratch buffer. -/
theorem sound_kernel (c : Dev nD) (E : Set ℕ) (i : grid0.Coords) (arg1 : Memref sig .tc .vmem S256x1536 .bf16) (harg1 : arg1.IsWhole) (arg2 : Memref sig .tc .vmem S768x1024 .i8) (harg2 : arg2.IsWhole) (arg3 : Memref sig .tc .vmem S384x1024 .i8) (harg3 : arg3.IsWhole) (arg4 : Memref sig .tc .vmem S6x16x1024 .i8) (harg4 : arg4.IsWhole) (arg5 : Memref sig .tc .vmem S6x1024 .i16) (harg5 : arg5.IsWhole) (arg6 : Memref sig .tc .vmem S256x1024 .bf16) (harg6 : arg6.IsWhole) (arg7 : Memref sig .tc .vmem S256x1024 .fp8e4m3) (harg7 : arg7.IsWhole) (arg8 : Memref sig .tc .vmem S8x1x256 .f32) (harg8 : arg8.IsWhole) (arg9 : Memref sig .tc .vmem S96x1024 .i32) (harg9 : arg9.IsWhole)
    (x0 : Vec F S256x1536 .bf16) (x1 : Vec F S768x1024 .i8) (x2 : Vec F S384x1024 .i8) (x3 : Vec F S6x16x1024 .i8) (x4 : Vec F S6x1024 .i16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_q6k_linear i arg1 harg1 arg2 harg2 arg3 harg3 arg4 harg4 arg5 harg5 arg6 harg6 arg7 harg7 arg8 harg8 arg9 harg9) K := by
  simp only [cc0_q6k_linear_eq_skeleton]; unfold cc0_q6k_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

variable (m : (ℓ : Loc nD τ sig) → Buf (Elt F) ℓ) (ρ : Dev nD → PrngReg)

/-- Proof data that says nothing of what the buffers hold: the arrays as the region finds them, everything the body
    leaves forgotten. -/
def fdats (_ : Fin 1) (c : Dev nD) : Dat τ (Elt F) Unit ℕ (UR sig nD τ) ℕ cfg0 c where
  A w := V m c (Pipeline.arrRef spec0 w)
  after _ _ := fun _ => Classical.choice inferInstance
  Φ _ := Pipeline.ΦA spec0 c
  q _ := fullShare
  owed _ := 0

theorem fdats_A (c : Dev nD) (w : Fin cfg0.W) : (fdats m 0 c).A w = V m c (Pipeline.arrRef spec0 w) := by
  dsimp only [fdats]

/-- Every buffer of the pipeline at anything, the scratch among them. -/
def anyBufs (c : Dev nD) (t : Fin cfg0.N) : sProp 𝕄 :=
  iprop((fdats m 0 c).Φ t.castSucc ∗ (fdats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

theorem scratch_in (c : Dev nD) (f : Buf (Elt F) ((c : Thread nD τ).loc cc0_scratch0)) :
    (((c : Thread nD τ).loc cc0_scratch0) ↦{fullShare} f : sProp 𝕄) ⊢ iprop(∃ d, owns (c : Thread nD τ) (Memref.whole cc0_scratch0) fullShare d) := by
  iintro H; iexists f; rw [owns_whole (c : Thread nD τ) cc0_scratch0]; iexact H

theorem scratch_out (c : Dev nD) :
    (iprop(∃ d, owns (c : Thread nD τ) (Memref.whole cc0_scratch0) fullShare d) : sProp 𝕄) ⊢ iprop(∃ f : Buf (Elt F) ((c : Thread nD τ).loc cc0_scratch0), ((c : Thread nD τ).loc cc0_scratch0) ↦{fullShare} f) := by
  iintro ⟨%d, H⟩; iexists d
  rw [owns_whole (c : Thread nD τ) cc0_scratch0]; exact .rfl

theorem any_body (c : Dev nD) (t : Fin cfg0.N) :
    anyBufs m c t ⊢ wp frame (wpE (defs₀ (F := F)) Variants.none c none) Set.univ (bodyAt0 t) (fun _ => anyBufs m c t) := by
  unfold anyBufs bodyAt0
  simp only [show (fdats m 0 c).Φ t.castSucc = Pipeline.ΦA spec0 c from rfl]
  unfold Pipeline.ΦA
  rw [scopedRest0_eq]
  iintro ⟨⟨⟨%f, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (Memref.whole cc0_scratch0) (Memref.isWhole_whole _) d0 d1 d2 d3 d4 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Hs]
  · iapply (scratch_in c f); iexact Hs
  iintro ⟨H0, H1, H2, H3, H4, ⟨%e5, H5⟩, ⟨%e6, H6⟩, ⟨%e7, H7⟩, Hs⟩
  isplitl [Hs Hp]
  · isplitl [Hs]
    · iapply (scratch_out c); iexact Hs
    · iexact Hp
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem defs₀_row (t : Fin cfg0.N) :
    defs₀ (F := F) .tc cfg0.body (cfg0.bodyArgs t (cfg0.slots t)) = bodyAt0 t := by
  unfold defs₀; rw [Defs.onTc_tc]

theorem any_obligation (c : Dev nD) :
    BodyObligationLoose (fdats (F := F) m 0 c) (defs₀ (F := F)) Variants.none () Set.univ (fun _ => true) := fun t => by
  rw [bigSep_W0]
  exact triple_restated (any_body m c t) (congrArg _ (defs₀_row t).symm) .rfl fun _ => .rfl

/-- What the host writes after the region: the scales, transposed. -/
def tail : Finset (Ref sig .tc) := {main_v8}

theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.mpr (Proc.devRef_injective _ hb)

set_option backward.isDefEq.respectTransparency.types false in
set_option maxHeartbeats 800000 in
theorem run_any : θ_run defs (onTc (τ := τ) (main (F := F))) (s₀ m ρ) (fun r =>
    Pipeline.RDat.FramePostR cfg0 (fun c => (fdats m 0 c).toRForget (fun _ => true)) tail (V m) r ∧ r.2.sem = fun _ => 0) :=
  Pipeline.θ_run_frame_around_T_forget (Q' := _) cfgs (fdats m) (0 : Fin 1) launch0 defs₀ Variants.none (fun _ => true) tail m ρ main
    (hbody := any_obligation m) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fdats_A m) (hΦ := fun _ _ => rfl)

/-- The frame: the run ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩)
    (run_any m ρ)

end Cert.Kernel.Hand

end
-- ==== Proof.KernelIdealFrame.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

variable {F : FTy → Type} [FloatOps F]

local notation "𝕄" => MT nD τ sig Unit (Elt F) ℕ (UR sig nD τ) ℕ

set_option maxHeartbeats 2000000 in
/-- The kernel body runs on whole buffers: it leaves its inputs as they were and something in its outputs and in
    its scratch buffer. -/
theorem sound_kernel (c : Dev nD) (E : Set ℕ) (i : grid0.Coords) (arg1 : Memref sig .tc .vmem S256x1536 .bf16) (harg1 : arg1.IsWhole) (arg2 : Memref sig .tc .vmem S768x1024 .i8) (harg2 : arg2.IsWhole) (arg3 : Memref sig .tc .vmem S384x1024 .i8) (harg3 : arg3.IsWhole) (arg4 : Memref sig .tc .vmem S6x16x1024 .i8) (harg4 : arg4.IsWhole) (arg5 : Memref sig .tc .vmem S6x1024 .i16) (harg5 : arg5.IsWhole) (arg6 : Memref sig .tc .vmem S256x1024 .bf16) (harg6 : arg6.IsWhole) (arg7 : Memref sig .tc .vmem S256x1024 .fp8e4m3) (harg7 : arg7.IsWhole) (arg8 : Memref sig .tc .vmem S8x1x256 .f32) (harg8 : arg8.IsWhole) (arg9 : Memref sig .tc .vmem S96x2x1024 .bf16) (harg9 : arg9.IsWhole)
    (x0 : Vec F S256x1536 .bf16) (x1 : Vec F S768x1024 .i8) (x2 : Vec F S384x1024 .i8) (x3 : Vec F S6x16x1024 .i8) (x4 : Vec F S6x1024 .i16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_q6k_linear i arg1 harg1 arg2 harg2 arg3 harg3 arg4 harg4 arg5 harg5 arg6 harg6 arg7 harg7 arg8 harg8 arg9 harg9) K := by
  simp only [cc0_q6k_linear_eq_skeleton]; unfold cc0_q6k_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

variable (m : (ℓ : Loc nD τ sig) → Buf (Elt F) ℓ) (ρ : Dev nD → PrngReg)

/-- Proof data that says nothing of what the buffers hold: the arrays as the region finds them, everything the body
    leaves forgotten. -/
def fdats (_ : Fin 1) (c : Dev nD) : Dat τ (Elt F) Unit ℕ (UR sig nD τ) ℕ cfg0 c where
  A w := V m c (Pipeline.arrRef spec0 w)
  after _ _ := fun _ => Classical.choice inferInstance
  Φ _ := Pipeline.ΦA spec0 c
  q _ := fullShare
  owed _ := 0

theorem fdats_A (c : Dev nD) (w : Fin cfg0.W) : (fdats m 0 c).A w = V m c (Pipeline.arrRef spec0 w) := by
  dsimp only [fdats]

/-- Every buffer of the pipeline at anything, the scratch among them. -/
def anyBufs (c : Dev nD) (t : Fin cfg0.N) : sProp 𝕄 :=
  iprop((fdats m 0 c).Φ t.castSucc ∗ (fdats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

theorem scratch_in (c : Dev nD) (f : Buf (Elt F) ((c : Thread nD τ).loc cc0_scratch0)) :
    (((c : Thread nD τ).loc cc0_scratch0) ↦{fullShare} f : sProp 𝕄) ⊢ iprop(∃ d, owns (c : Thread nD τ) (Memref.whole cc0_scratch0) fullShare d) := by
  iintro H; iexists f; rw [owns_whole (c : Thread nD τ) cc0_scratch0]; iexact H

theorem scratch_out (c : Dev nD) :
    (iprop(∃ d, owns (c : Thread nD τ) (Memref.whole cc0_scratch0) fullShare d) : sProp 𝕄) ⊢ iprop(∃ f : Buf (Elt F) ((c : Thread nD τ).loc cc0_scratch0), ((c : Thread nD τ).loc cc0_scratch0) ↦{fullShare} f) := by
  iintro ⟨%d, H⟩; iexists d
  rw [owns_whole (c : Thread nD τ) cc0_scratch0]; exact .rfl

theorem any_body (c : Dev nD) (t : Fin cfg0.N) :
    anyBufs m c t ⊢ wp frame (wpE (defs₀ (F := F)) Variants.none c none) Set.univ (bodyAt0 t) (fun _ => anyBufs m c t) := by
  unfold anyBufs bodyAt0
  simp only [show (fdats m 0 c).Φ t.castSucc = Pipeline.ΦA spec0 c from rfl]
  unfold Pipeline.ΦA
  rw [scopedRest0_eq]
  iintro ⟨⟨⟨%f, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (Memref.whole cc0_scratch0) (Memref.isWhole_whole _) d0 d1 d2 d3 d4 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Hs]
  · iapply (scratch_in c f); iexact Hs
  iintro ⟨H0, H1, H2, H3, H4, ⟨%e5, H5⟩, ⟨%e6, H6⟩, ⟨%e7, H7⟩, Hs⟩
  isplitl [Hs Hp]
  · isplitl [Hs]
    · iapply (scratch_out c); iexact Hs
    · iexact Hp
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem defs₀_row (t : Fin cfg0.N) :
    defs₀ (F := F) .tc cfg0.body (cfg0.bodyArgs t (cfg0.slots t)) = bodyAt0 t := by
  unfold defs₀; rw [Defs.onTc_tc]

theorem any_obligation (c : Dev nD) :
    BodyObligationLoose (fdats (F := F) m 0 c) (defs₀ (F := F)) Variants.none () Set.univ (fun _ => true) := fun t => by
  rw [bigSep_W0]
  exact triple_restated (any_body m c t) (congrArg _ (defs₀_row t).symm) .rfl fun _ => .rfl

/-- What the host writes after the region: the scales, transposed. -/
def tail : Finset (Ref sig .tc) := {main_v8}

theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.mpr (Proc.devRef_injective _ hb)

set_option backward.isDefEq.respectTransparency.types false in
set_option maxHeartbeats 800000 in
theorem run_any : θ_run defs (onTc (τ := τ) (main (F := F))) (s₀ m ρ) (fun r =>
    Pipeline.RDat.FramePostR cfg0 (fun c => (fdats m 0 c).toRForget (fun _ => true)) tail (V m) r ∧ r.2.sem = fun _ => 0) :=
  Pipeline.θ_run_frame_around_T_forget (Q' := _) cfgs (fdats m) (0 : Fin 1) launch0 defs₀ Variants.none (fun _ => true) tail m ρ main
    (hbody := any_obligation m) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fdats_A m) (hΦ := fun _ _ => rfl)

/-- The frame: the run ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩)
    (run_any m ρ)

end Cert.KernelIdeal.Hand

end
-- ==== Proof.KVocab.lean ====
module

public import proofs.«01_k».proof.Proof.Gen.KernelIdeal.Skeleton
public import Idealize.ShloMosaic.Lib.Pipeline.FrameBody
public import Idealize.ShloMosaic.Lib.Pipeline.ReadBack

@[expose] public section

set_option maxRecDepth 16384

noncomputable section

namespace Cert.KernelIdeal.Hand

open Idealize.ShloMosaic
open Cert.KernelIdeal.Gen

variable {F : FTy → Type} [FloatOps F]

/-- The block scales of one super-block times its integer sub-block scales, each row stored twice. -/
def sPiece (o : ℕ) (h : S6x256.Slices ![o, 0] S1x256) (d : FVec F S6x256 .f32) (l : Vec F S1x16x256 .i8) : Vec F S16x2x256 .bf16 :=
  k0_pay3 (extractStridedSlice S1x256 ![o, 0] d h) l

/-- The four words of codes of half a super-block: byte `k` of row `r` is four times a weight's six-bit code, less 128. -/
def word (ql : Vec F S64x256 .i8) (qh : Vec F S32x256 .i8) : Fin 4 → IVec S8x256 32 :=
  ![k0_pay19 ql qh, k0_pay20 ql qh,
    ori (k0_pay21 ql) (andi (k0_pay22 qh) k0_pay23),
    ori (andi (shrsi (k0_pay17 ql) (broadcast S8x256 2#32)) (broadcast S8x256 1010580540#32))
      (andi (k0_pay18 qh) (broadcast S8x256 3233857728#32))]

/-- Sixteen rows of weights: their codes times their scale. -/
def pc (o : ℕ) (ho : S32x256.Slices ![o, 0] S16x256) (r : ℕ) (hr : S16x256.Slices ![r, 0] S1x256) (w : IVec S8x256 32)
    (raw : Vec F S8x2x256 .bf16) : FVec F S16x256 .bf16 :=
  mulf (extractStridedSlice S16x256 ![o, 0] (sitofp .bf16 (bitcast S32x256 8 w bitcasts_S8x256_w32_S32x256_w8) : FVec F S32x256 .bf16) ho)
    (broadcastTo S16x256 (shapeCast S1x256 (extractStridedSlice S1x256 ![r, 0] (k0_pay24 raw) hr) shapeCasts_S1x256_S1x256)
      broadcasts_S1x256_S16x256)

/-- The eight pieces of half a super-block. -/
def blk (ql : Vec F S64x256 .i8) (qh : Vec F S32x256 .i8) (raw : Vec F S8x2x256 .bf16) : Fin 8 → FVec F S16x256 .bf16 :=
  ![pc 0 slices_S32x256_o0_0_S16x256 0 slices_S16x256_o0_0_S1x256 (word ql qh 0) raw, pc 16 slices_S32x256_o16_0_S16x256 2 slices_S16x256_o2_0_S1x256 (word ql qh 0) raw, pc 0 slices_S32x256_o0_0_S16x256 4 slices_S16x256_o4_0_S1x256 (word ql qh 1) raw, pc 16 slices_S32x256_o16_0_S16x256 6 slices_S16x256_o6_0_S1x256 (word ql qh 1) raw, pc 0 slices_S32x256_o0_0_S16x256 8 slices_S16x256_o8_0_S1x256 (word ql qh 2) raw, pc 16 slices_S32x256_o16_0_S16x256 10 slices_S16x256_o10_0_S1x256 (word ql qh 2) raw, pc 0 slices_S32x256_o0_0_S16x256 12 slices_S16x256_o12_0_S1x256 (word ql qh 3) raw, pc 16 slices_S32x256_o16_0_S16x256 14 slices_S16x256_o14_0_S1x256 (word ql qh 3) raw]

/-- The ninety-six pieces one under the other. -/
def wmat (W : Fin 12 → Fin 8 → FVec F S16x256 .bf16) : FVec F S1536x256 .bf16 :=
  concatenate S1536x256 0 (⟨S16x256, W 0 0⟩ :: ⟨S16x256, W 0 1⟩ :: ⟨S16x256, W 0 2⟩ :: ⟨S16x256, W 0 3⟩ :: ⟨S16x256, W 0 4⟩ :: ⟨S16x256, W 0 5⟩ :: ⟨S16x256, W 0 6⟩ :: ⟨S16x256, W 0 7⟩ :: ⟨S16x256, W 1 0⟩ :: ⟨S16x256, W 1 1⟩ :: ⟨S16x256, W 1 2⟩ :: ⟨S16x256, W 1 3⟩ :: ⟨S16x256, W 1 4⟩ :: ⟨S16x256, W 1 5⟩ :: ⟨S16x256, W 1 6⟩ :: ⟨S16x256, W 1 7⟩ :: ⟨S16x256, W 2 0⟩ :: ⟨S16x256, W 2 1⟩ :: ⟨S16x256, W 2 2⟩ :: ⟨S16x256, W 2 3⟩ :: ⟨S16x256, W 2 4⟩ :: ⟨S16x256, W 2 5⟩ :: ⟨S16x256, W 2 6⟩ :: ⟨S16x256, W 2 7⟩ :: ⟨S16x256, W 3 0⟩ :: ⟨S16x256, W 3 1⟩ :: ⟨S16x256, W 3 2⟩ :: ⟨S16x256, W 3 3⟩ :: ⟨S16x256, W 3 4⟩ :: ⟨S16x256, W 3 5⟩ :: ⟨S16x256, W 3 6⟩ :: ⟨S16x256, W 3 7⟩ :: ⟨S16x256, W 4 0⟩ :: ⟨S16x256, W 4 1⟩ :: ⟨S16x256, W 4 2⟩ :: ⟨S16x256, W 4 3⟩ :: ⟨S16x256, W 4 4⟩ :: ⟨S16x256, W 4 5⟩ :: ⟨S16x256, W 4 6⟩ :: ⟨S16x256, W 4 7⟩ :: ⟨S16x256, W 5 0⟩ :: ⟨S16x256, W 5 1⟩ :: ⟨S16x256, W 5 2⟩ :: ⟨S16x256, W 5 3⟩ :: ⟨S16x256, W 5 4⟩ :: ⟨S16x256, W 5 5⟩ :: ⟨S16x256, W 5 6⟩ :: ⟨S16x256, W 5 7⟩ :: ⟨S16x256, W 6 0⟩ :: ⟨S16x256, W 6 1⟩ :: ⟨S16x256, W 6 2⟩ :: ⟨S16x256, W 6 3⟩ :: ⟨S16x256, W 6 4⟩ :: ⟨S16x256, W 6 5⟩ :: ⟨S16x256, W 6 6⟩ :: ⟨S16x256, W 6 7⟩ :: ⟨S16x256, W 7 0⟩ :: ⟨S16x256, W 7 1⟩ :: ⟨S16x256, W 7 2⟩ :: ⟨S16x256, W 7 3⟩ :: ⟨S16x256, W 7 4⟩ :: ⟨S16x256, W 7 5⟩ :: ⟨S16x256, W 7 6⟩ :: ⟨S16x256, W 7 7⟩ :: ⟨S16x256, W 8 0⟩ :: ⟨S16x256, W 8 1⟩ :: ⟨S16x256, W 8 2⟩ :: ⟨S16x256, W 8 3⟩ :: ⟨S16x256, W 8 4⟩ :: ⟨S16x256, W 8 5⟩ :: ⟨S16x256, W 8 6⟩ :: ⟨S16x256, W 8 7⟩ :: ⟨S16x256, W 9 0⟩ :: ⟨S16x256, W 9 1⟩ :: ⟨S16x256, W 9 2⟩ :: ⟨S16x256, W 9 3⟩ :: ⟨S16x256, W 9 4⟩ :: ⟨S16x256, W 9 5⟩ :: ⟨S16x256, W 9 6⟩ :: ⟨S16x256, W 9 7⟩ :: ⟨S16x256, W 10 0⟩ :: ⟨S16x256, W 10 1⟩ :: ⟨S16x256, W 10 2⟩ :: ⟨S16x256, W 10 3⟩ :: ⟨S16x256, W 10 4⟩ :: ⟨S16x256, W 10 5⟩ :: ⟨S16x256, W 10 6⟩ :: ⟨S16x256, W 10 7⟩ :: ⟨S16x256, W 11 0⟩ :: ⟨S16x256, W 11 1⟩ :: ⟨S16x256, W 11 2⟩ :: ⟨S16x256, W 11 3⟩ :: ⟨S16x256, W 11 4⟩ :: ⟨S16x256, W 11 5⟩ :: ⟨S16x256, W 11 6⟩ :: ⟨S16x256, W 11 7⟩ :: [])
    concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S1536x256_d0

/-- A chunk of 256 columns of the product. -/
def yOf (x : Vec F S256x1536 .bf16) (w : FVec F S1536x256 .bf16) : FVec F S256x256 .bf16 :=
  truncf .bf16 (matmul dot_S256x1536_S1536x256_S256x256_1_0_0_1_n_n none (shapeCast S256x1536 x shapeCasts_S256x1536_S256x1536 : FVec F S256x1536 .bf16) w
    (constant S256x256 .f32 0x00000000#32 : FVec F S256x256 .f32)) bitsLt_bf16_f32

/-- The largest magnitude of each row of a group of 128 columns. -/
def amax (v : FVec F S256x128 .bf16) : FVec F S256 .bf16 :=
  multiReduction .maximumf [1] S256 (absf v) 0xFF80#16 reduces_S256x128_S256 (.inr rfl) rfl

/-- The fp8 codes of a group. -/
def qCodes (v : FVec F S256x128 .bf16) : FVec F S256x128 .fp8e4m3 :=
  k0_pay273 v (k0_pay268 (amax v)) (k0_pay269 (amax v)) (k0_pay270 (amax v)) (k0_pay271 (amax v))

/-- The scales of a group, as a row. -/
def qScale (v : FVec F S256x128 .bf16) : FVec F S1x1x256 .f32 :=
  k0_pay275 (k0_pay274 (k0_pay268 (amax v)) (k0_pay269 (amax v)) (k0_pay270 (amax v)) (k0_pay271 (amax v)))

/-- A group of 128 columns of a chunk. -/
def grp (y : FVec F S256x256 .bf16) : Fin 2 → FVec F S256x128 .bf16 :=
  ![extractStridedSlice S256x128 ![0, 0] y slices_S256x256_o0_0_S256x128,
    extractStridedSlice S256x128 ![0, 128] y slices_S256x256_o0_128_S256x128]

/-- Rows `64 n` to `64 n + 63` of chunk `c` of the low nibbles. -/
abbrev rQl (c : Fin 4) (n : Fin 12) : Rect S768x1024 := Rect.unit ![64 * n.val, 256 * c.val] S64x256.size (by
  have := c.isLt; have := n.isLt; intro a; fin_cases a <;> simp <;> omega)
/-- Rows `32 n` to `32 n + 31` of chunk `c` of the high bits. -/
abbrev rQh (c : Fin 4) (n : Fin 12) : Rect S384x1024 := Rect.unit ![32 * n.val, 256 * c.val] S32x256.size (by
  have := c.isLt; have := n.isLt; intro a; fin_cases a <;> simp <;> omega)
/-- Super-block `n` of chunk `c` of the sub-block scales. -/
abbrev rSc (c : Fin 4) (n : Fin 6) : Rect S6x16x1024 := Rect.unit ![n.val, 0, 256 * c.val] S1x16x256.size (by
  have := c.isLt; have := n.isLt; intro a; fin_cases a <;> simp <;> omega)
/-- Chunk `c` of the super-block scales. -/
abbrev rD (c : Fin 4) : Rect S6x1024 := Rect.unit ![0, 256 * c.val] S6x256.size (by
  have := c.isLt; intro a; fin_cases a <;> simp <;> omega)
/-- Where the scratch holds the scales of super-block `n` of chunk `c`. -/
abbrev rS (c : Fin 4) (n : Fin 6) : Rect S96x2x1024 := Rect.unit ![16 * n.val, 0, 256 * c.val] S16x2x256.size (by
  have := c.isLt; have := n.isLt; intro a; fin_cases a <;> simp <;> omega)
/-- Half of one. -/
abbrev rS8 (c : Fin 4) (n : Fin 12) : Rect S96x2x1024 := Rect.unit ![8 * n.val, 0, 256 * c.val] S8x2x256.size (by
  have := c.isLt; have := n.isLt; intro a; fin_cases a <;> simp <;> omega)
/-- Chunk `c` of the product. -/
abbrev rY (c : Fin 4) : Rect S256x1024 := Rect.unit ![0, 256 * c.val] S256x256.size (by
  have := c.isLt; intro a; fin_cases a <;> simp <;> omega)
/-- Group `g` of the codes. -/
abbrev rC (g : Fin 8) : Rect S256x1024 := Rect.unit ![0, 128 * g.val] S256x128.size (by
  have := g.isLt; intro a; fin_cases a <;> simp <;> omega)
/-- Row `g` of the scales. -/
abbrev rR (g : Fin 8) : Rect S8x1x256 := Rect.unit ![g.val, 0, 0] S1x1x256.size (by
  have := g.isLt; intro a; fin_cases a <;> simp <;> omega)
/-- All of `x`. -/
abbrev rX : Rect S256x1536 := Rect.unit ![0, 0] S256x1536.size inb_S256x1536_S256x1536_0_0

/-- What is stored for super-block `n` of chunk `c`. -/
def sPc (x3 : Vec F S6x16x1024 .i8) (x4 : Vec F S6x1024 .i16) (c : Fin 4) : Fin 6 → Vec F S16x2x256 .bf16 :=
  ![sPiece 0 slices_S6x256_o0_0_S1x256 (k0_pay1 (View.ld x4 (rD c))) (View.ld x3 (rSc c 0)), sPiece 1 slices_S6x256_o1_0_S1x256 (k0_pay1 (View.ld x4 (rD c))) (View.ld x3 (rSc c 1)), sPiece 2 slices_S6x256_o2_0_S1x256 (k0_pay1 (View.ld x4 (rD c))) (View.ld x3 (rSc c 2)), sPiece 3 slices_S6x256_o3_0_S1x256 (k0_pay1 (View.ld x4 (rD c))) (View.ld x3 (rSc c 3)), sPiece 4 slices_S6x256_o4_0_S1x256 (k0_pay1 (View.ld x4 (rD c))) (View.ld x3 (rSc c 4)), sPiece 5 slices_S6x256_o5_0_S1x256 (k0_pay1 (View.ld x4 (rD c))) (View.ld x3 (rSc c 5))]

/-- The stores of chunk `c` to the scratch, last first, before `L`. -/
def scr1 (x3 : Vec F S6x16x1024 .i8) (x4 : Vec F S6x1024 .i16) (c : Fin 4) (L : List (View.Piece (Elt F) S96x2x1024 .bf16)) :
    List (View.Piece (Elt F) S96x2x1024 .bf16) :=
  ⟨rS c 5, sPc x3 x4 c 5⟩ :: ⟨rS c 4, sPc x3 x4 c 4⟩ :: ⟨rS c 3, sPc x3 x4 c 3⟩ :: ⟨rS c 2, sPc x3 x4 c 2⟩ :: ⟨rS c 1, sPc x3 x4 c 1⟩ :: ⟨rS c 0, sPc x3 x4 c 0⟩ :: L

/-- All stores to the scratch up to chunk `c`. -/
def scr (x3 : Vec F S6x16x1024 .i8) (x4 : Vec F S6x1024 .i16) : Fin 4 → List (View.Piece (Elt F) S96x2x1024 .bf16) :=
  ![scr1 x3 x4 0 [], scr1 x3 x4 1 (scr1 x3 x4 0 []), scr1 x3 x4 2 (scr1 x3 x4 1 (scr1 x3 x4 0 [])),
    scr1 x3 x4 3 (scr1 x3 x4 2 (scr1 x3 x4 1 (scr1 x3 x4 0 [])))]

/-- What a load of half a super-block's scales reads. -/
def rawOf (v : View sig .tc .vmem S96x2x1024 .bf16) (x3 : Vec F S6x16x1024 .i8) (x4 : Vec F S6x1024 .i16) (c : Fin 4) (n : Fin 12) : Vec F S8x2x256 .bf16 :=
  v.readCov (scr x3 x4 c) (rS8 c n).toLoadRect

/-- Chunk `c` of the product, from the input blocks. -/
def yCh (v : View sig .tc .vmem S96x2x1024 .bf16) (x0 : Vec F S256x1536 .bf16) (x1 : Vec F S768x1024 .i8) (x2 : Vec F S384x1024 .i8) (x3 : Vec F S6x16x1024 .i8)
    (x4 : Vec F S6x1024 .i16) (c : Fin 4) : FVec F S256x256 .bf16 :=
  yOf (View.ld x0 rX) (wmat fun n => blk (View.ld x1 (rQl c n)) (View.ld x2 (rQh c n)) (rawOf v x3 x4 c n))

/-- The stores of the product. -/
def lY (v : View sig .tc .vmem S96x2x1024 .bf16) (x0 : Vec F S256x1536 .bf16) (x1 : Vec F S768x1024 .i8) (x2 : Vec F S384x1024 .i8) (x3 : Vec F S6x16x1024 .i8)
    (x4 : Vec F S6x1024 .i16) : List (View.Piece (Elt F) S256x1024 .bf16) :=
  [⟨rY 3, yCh v x0 x1 x2 x3 x4 3⟩, ⟨rY 2, yCh v x0 x1 x2 x3 x4 2⟩, ⟨rY 1, yCh v x0 x1 x2 x3 x4 1⟩, ⟨rY 0, yCh v x0 x1 x2 x3 x4 0⟩]
/-- The stores of the codes. -/
def lC (v : View sig .tc .vmem S96x2x1024 .bf16) (x0 : Vec F S256x1536 .bf16) (x1 : Vec F S768x1024 .i8) (x2 : Vec F S384x1024 .i8) (x3 : Vec F S6x16x1024 .i8)
    (x4 : Vec F S6x1024 .i16) : List (View.Piece (Elt F) S256x1024 .fp8e4m3) :=
  [⟨rC 7, qCodes (grp (yCh v x0 x1 x2 x3 x4 3) 1)⟩, ⟨rC 6, qCodes (grp (yCh v x0 x1 x2 x3 x4 3) 0)⟩, ⟨rC 5, qCodes (grp (yCh v x0 x1 x2 x3 x4 2) 1)⟩, ⟨rC 4, qCodes (grp (yCh v x0 x1 x2 x3 x4 2) 0)⟩, ⟨rC 3, qCodes (grp (yCh v x0 x1 x2 x3 x4 1) 1)⟩, ⟨rC 2, qCodes (grp (yCh v x0 x1 x2 x3 x4 1) 0)⟩, ⟨rC 1, qCodes (grp (yCh v x0 x1 x2 x3 x4 0) 1)⟩, ⟨rC 0, qCodes (grp (yCh v x0 x1 x2 x3 x4 0) 0)⟩]
/-- The stores of the scales. -/
def lS (v : View sig .tc .vmem S96x2x1024 .bf16) (x0 : Vec F S256x1536 .bf16) (x1 : Vec F S768x1024 .i8) (x2 : Vec F S384x1024 .i8) (x3 : Vec F S6x16x1024 .i8)
    (x4 : Vec F S6x1024 .i16) : List (View.Piece (Elt F) S8x1x256 .f32) :=
  [⟨rR 7, qScale (grp (yCh v x0 x1 x2 x3 x4 3) 1)⟩, ⟨rR 6, qScale (grp (yCh v x0 x1 x2 x3 x4 3) 0)⟩, ⟨rR 5, qScale (grp (yCh v x0 x1 x2 x3 x4 2) 1)⟩, ⟨rR 4, qScale (grp (yCh v x0 x1 x2 x3 x4 2) 0)⟩, ⟨rR 3, qScale (grp (yCh v x0 x1 x2 x3 x4 1) 1)⟩, ⟨rR 2, qScale (grp (yCh v x0 x1 x2 x3 x4 1) 0)⟩, ⟨rR 1, qScale (grp (yCh v x0 x1 x2 x3 x4 0) 1)⟩, ⟨rR 0, qScale (grp (yCh v x0 x1 x2 x3 x4 0) 0)⟩]

end Cert.KernelIdeal.Hand
-- ==== Proof.KVal.lean ====
module

public import proofs.«01_k».proof.Proof.KVocab
public import Idealize.ShloMosaic.Lib.Pointwise
public import Idealize.ShloMosaic.Lib.BitcastFour
public import Idealize.ShloMosaic.Lib.Pipeline.ValueKit.Point

@[expose] public section

set_option maxRecDepth 16384

noncomputable section

namespace Cert.KernelIdeal.Hand

open Idealize.ShloMosaic
open Cert.KernelIdeal.Gen

/-! ## The vocabulary read at an index, over the extended reals -/

/-- A quarter of the number that the bits of a float16 stand for, as the kernel computes it. -/
def dK (b : BitVec 16) : EReal :=
  Scalar.select (IntOp.cmpi CmpIPredicate.slt (IntOp.andi (BitVec.signExtend 32 b) 32767#32) 1024#32)
      (Scalar.select
        (IntOp.cmpi CmpIPredicate.ne (IntOp.shli ArithUnit.vector (IntOp.andi (BitVec.signExtend 32 b) 32768#32) 16#32) 0#32)
        (0 - (FloatOps.sitofp FTy.f32 (IntOp.andi (IntOp.andi (BitVec.signExtend 32 b) 32767#32) 1023#32) : Ideal .f32) * Ideal.ofBits FTy.f32 864026624#32)
        ((FloatOps.sitofp FTy.f32 (IntOp.andi (IntOp.andi (BitVec.signExtend 32 b) 32767#32) 1023#32) : Ideal .f32) * Ideal.ofBits FTy.f32 864026624#32))
      (Scalar.select (IntOp.cmpi CmpIPredicate.sge (IntOp.andi (BitVec.signExtend 32 b) 32767#32) 31744#32)
        (Ideal.ofBits FTy.f32
          (IntOp.ori (IntOp.addi (IntOp.shli ArithUnit.vector (IntOp.andi (BitVec.signExtend 32 b) 32767#32) 13#32) 1879048192#32)
            (IntOp.shli ArithUnit.vector (IntOp.andi (BitVec.signExtend 32 b) 32768#32) 16#32)))
        (Ideal.ofBits FTy.f32
          (IntOp.ori (IntOp.addi (IntOp.shli ArithUnit.vector (IntOp.andi (BitVec.signExtend 32 b) 32767#32) 13#32) 939524096#32)
            (IntOp.shli ArithUnit.vector (IntOp.andi (BitVec.signExtend 32 b) 32768#32) 16#32)))) *
    Ideal.ofBits FTy.f32 1048576000#32

theorem d_apply (v : Vec Ideal S6x256 .i16) (n : Fin 6) (q : Fin 256) : k0_pay1 v (ix2 n q) = dK (v (ix2 n q)) := by
  pointwise [k0_pay1, dK]

theorem sPiece_apply (o : ℕ) (ho : o < 6) (h : S6x256.Slices ![o, 0] S1x256) (d : FVec Ideal S6x256 .f32) (l : Vec Ideal S1x16x256 .i8)
    (r : Fin 16) (p : Fin 2) (q : Fin 256) :
    sPiece o h d l (ix3 r p q) = d (ix2 ⟨o, ho⟩ q) * (FloatOps.sitofp .f32 (l (ix3 0 r q)) : Ideal .f32) := by
  pointwise [sPiece, k0_pay3]
  exact ite_self _

theorem sPc_apply (x3 : Vec Ideal S6x16x1024 .i8) (x4 : Vec Ideal S6x1024 .i16) (c : Fin 4) (n : Fin 6) (r : Fin 16) (p : Fin 2) (q : Fin 256) :
    sPc x3 x4 c n (ix3 r p q) = dK (x4 (ix2 n ⟨256 * c.val + q.val, by omega⟩))
      * (FloatOps.sitofp .f32 (x3 (ix3 n r ⟨256 * c.val + q.val, by omega⟩)) : Ideal .f32) := by
  have h : sPc x3 x4 c n (ix3 r p q) = k0_pay1 (View.ld x4 (rD c)) (ix2 n q) * (FloatOps.sitofp .f32 (View.ld x3 (rSc c n) (ix3 0 r q)) : Ideal .f32) := by
    unfold sPc
    fin_cases n <;> exact sPiece_apply _ (by decide) _ _ _ r p q
  rw [h, d_apply]
  congr 3
  · pointwise
  · pointwise

/-- Entry `r` of the scales of super-block `n`, column `q` of chunk `c`, in the scratch. -/
abbrev sIx (c : Fin 4) (n : Fin 6) (r : Fin 16) (p : Fin 2) (q : Fin 256) : S96x2x1024.Idx :=
  ix3 ⟨16 * n.val + r.val, by omega⟩ p ⟨256 * c.val + q.val, by omega⟩

theorem scr_hit (c : Fin 4) (n : Fin 6) (w : (rS c n).shape.Idx → Elt Ideal .bf16) (L : List (View.Piece (Elt Ideal) S96x2x1024 .bf16))
    (r : Fin 16) (p : Fin 2) (q : Fin 256) : View.canon (⟨rS c n, w⟩ :: L) (sIx c n r p q) = w (ix3 r p q) := by
  have h : sIx c n r p q = (rS c n).emb (ix3 r p q) := by
    funext a; apply Fin.ext
    fin_cases a
    · show 16 * n.val + r.val = 16 * n.val + 1 * r.val; omega
    · show p.val = 0 + 1 * p.val; omega
    · show 256 * c.val + q.val = 256 * c.val + 1 * q.val; omega
  rw [h, View.canon_cons_emb]

theorem scr_miss (c : Fin 4) (n m : Fin 6) (hm : n ≠ m) (w : (rS c m).shape.Idx → Elt Ideal .bf16) (L : List (View.Piece (Elt Ideal) S96x2x1024 .bf16))
    (r : Fin 16) (p : Fin 2) (q : Fin 256) : View.canon (⟨rS c m, w⟩ :: L) (sIx c n r p q) = View.canon L (sIx c n r p q) := by
  refine View.canon_cons_of_not_mem _ _ fun h => ?_
  rw [Rect.mem_set_unit] at h
  have h0 := h 0
  have : n.val ≠ m.val := fun e => hm (Fin.ext e)
  simp at h0
  omega

theorem scr1_apply (x3 : Vec Ideal S6x16x1024 .i8) (x4 : Vec Ideal S6x1024 .i16) (c : Fin 4) (L : List (View.Piece (Elt Ideal) S96x2x1024 .bf16)) (n : Fin 6)
    (r : Fin 16) (p : Fin 2) (q : Fin 256) : View.canon (scr1 x3 x4 c L) (sIx c n r p q) = sPc x3 x4 c n (ix3 r p q) := by
  unfold scr1
  by_cases h5 : n = 5
  · subst h5; rw [scr_hit]
  rw [scr_miss c n 5 h5]
  by_cases h4 : n = 4
  · subst h4; rw [scr_hit]
  rw [scr_miss c n 4 h4]
  by_cases h3 : n = 3
  · subst h3; rw [scr_hit]
  rw [scr_miss c n 3 h3]
  by_cases h2 : n = 2
  · subst h2; rw [scr_hit]
  rw [scr_miss c n 2 h2]
  by_cases h1 : n = 1
  · subst h1; rw [scr_hit]
  rw [scr_miss c n 1 h1]
  obtain rfl : n = 0 := by omega
  rw [scr_hit]

theorem rawOf_apply (v : View sig .tc .vmem S96x2x1024 .bf16) (x3 : Vec Ideal S6x16x1024 .i8) (x4 : Vec Ideal S6x1024 .i16) (c : Fin 4) (n : Fin 12)
    (r : Fin 8) (p : Fin 2) (q : Fin 256) :
    rawOf v x3 x4 c n (ix3 r p q) = dK (x4 (ix2 ⟨n.val / 2, by omega⟩ ⟨256 * c.val + q.val, by omega⟩))
      * (FloatOps.sitofp .f32 (x3 (ix3 ⟨n.val / 2, by omega⟩ ⟨8 * (n.val % 2) + r.val, by omega⟩ ⟨256 * c.val + q.val, by omega⟩)) : Ideal .f32) := by
  unfold rawOf
  rw [View.readCov_eq_canon']
  have h : (rS8 c n).toLoadRect.idx (ix3 r p q) = sIx c ⟨n.val / 2, by omega⟩ ⟨8 * (n.val % 2) + r.val, by omega⟩ p q := by
    funext a; apply Fin.ext
    fin_cases a
    · show 8 * n.val + 1 * r.val = 16 * (n.val / 2) + (8 * (n.val % 2) + r.val); omega
    · show 0 + 1 * p.val = p.val; omega
    · show 256 * c.val + 1 * q.val = 256 * c.val + q.val; omega
  show View.canon _ _ = _
  rw [h]
  have h2 : ∀ c, ∃ L, scr x3 x4 c = scr1 x3 x4 c L := by
    intro c
    fin_cases c <;> exact ⟨_, rfl⟩
  obtain ⟨L, hL⟩ := h2 c
  rw [hL, scr1_apply, sPc_apply]

theorem raw24_apply (v : Vec Ideal S8x2x256 .bf16) (n : Fin 16) (q : Fin 256) :
    k0_pay24 v (ix2 n q) = v (ix3 ⟨n.val/2, by omega⟩ ⟨n.val % 2, by omega⟩ q) := by
  pointwise [k0_pay24]
  split
  · rename_i h
    exact congrArg v (congrArg (fun p => ix3 _ p q) (Fin.ext h.symm))
  · rename_i h
    exact congrArg v (congrArg (fun p => ix3 _ p q) (Fin.ext (by show 1 = n.val % 2; omega)))

theorem yOf_apply (x : Vec Ideal S256x1536 .bf16) (w : FVec Ideal S1536x256 .bf16) (r : Fin 256) (q : Fin 256) :
    yOf x w (ix2 r q) = ∑ k : Fin 1536, x (ix2 r k) * w (ix2 k q) := by
  pointwise [yOf]

theorem amax_apply (v : FVec Ideal S256x128 .bf16) (r : Fin 256) :
    amax v (ix1 r) = Finset.fold max (Ideal.ofBits FTy.bf16 65408#16) (fun x => FloatOps.absf (v (ix2 r x))) Finset.univ := by
  pointwise [amax]

/-- One step of the search for the exponent field. -/
def stp (z : EReal) (s e : BitVec 32) : BitVec 32 :=
  Scalar.select (FloatOps.cmpf (F := Ideal) (φ := .f32) .oge z (Ideal.ofBits .f32 (IntOp.shli .vector (IntOp.addi e s) 23#32))) (IntOp.addi e s) e

/-- The exponent of the scale. -/
def eK (z : EReal) : BitVec 32 :=
  Scalar.select (FloatOps.cmpf (F := Ideal) (φ := .f32) .oeq z (Ideal.ofBits .f32 0#32)) 0#32
    (IntOp.subi (stp z 1#32 (stp z 2#32 (stp z 4#32 (stp z 8#32 (stp z 16#32 (stp z 32#32 (stp z 64#32 (stp z 128#32 0#32)))))))) 126#32)

/-- A code. -/
def codeK (z y : EReal) : EReal :=
  min (Ideal.ofBits .f32 0x43E00000#32) (max (Ideal.ofBits .f32 0xC3E00000#32) (y * Ideal.ofBits .f32 (IntOp.shli .vector (IntOp.subi 127#32 (eK z)) 23#32)))

/-- A scale. -/
def scaleK (z : EReal) : EReal :=
  Ideal.ofBits .f32 (IntOp.shli .vector (IntOp.addi 127#32 (eK z)) 23#32)

theorem z_apply (a : FVec Ideal S256 .bf16) (r : Fin 256) (q : Fin 128) :
    k0_pay268 a (ix2 r q) = a (ix1 r) * Ideal.ofBits .f32 0x3B124925#32 := by
  pointwise [k0_pay268]

/-- One step of the search, on a whole group. -/
def vstp (z : FVec Ideal S256x128 .f32) (s : BitVec 32) (e : IVec S256x128 32) : IVec S256x128 32 :=
  select (cmpf .oge z (bitcastToFloat .f32 (shli (addi e (broadcast S256x128 s)) (broadcast S256x128 23#32)))) (addi e (broadcast S256x128 s)) e

theorem vstp_apply (z : FVec Ideal S256x128 .f32) (s : BitVec 32) (e : IVec S256x128 32) (i : S256x128.Idx) :
    vstp z s e i = stp (z i) s (e i) := rfl

theorem pay270_eq (a : FVec Ideal S256 .bf16) :
    k0_pay270 a = vstp (k0_pay268 a) 8#32 (vstp (k0_pay268 a) 16#32 (vstp (k0_pay268 a) 32#32 (vstp (k0_pay268 a) 64#32 (vstp (k0_pay268 a) 128#32 (broadcast S256x128 0#32))))) := by
  unfold k0_pay270 vstp
  rfl

theorem pay272_eq (z : FVec Ideal S256x128 .f32) (b : IVec S256x128 1) (e : IVec S256x128 32) :
    k0_pay272 z b e (addi e (broadcast S256x128 4#32)) = select b (broadcast S256x128 0#32)
      (subi (vstp z 1#32 (vstp z 2#32 (vstp z 4#32 e))) (broadcast S256x128 126#32)) := by
  unfold k0_pay272 vstp
  rfl

theorem e_apply (a : FVec Ideal S256 .bf16) (i : S256x128.Idx) :
    k0_pay272 (k0_pay268 a) (k0_pay269 a) (k0_pay270 a) (k0_pay271 a) i = eK (k0_pay268 a i) := by
  have h : k0_pay271 a = addi (k0_pay270 a) (broadcast S256x128 4#32) := rfl
  rw [h, pay272_eq, pay270_eq]
  show Scalar.select _ _ (IntOp.subi (vstp _ _ _ i) _) = _
  rw [vstp_apply, vstp_apply, vstp_apply, vstp_apply, vstp_apply, vstp_apply, vstp_apply, vstp_apply]
  rfl

theorem qCodes_apply (v : FVec Ideal S256x128 .bf16) (r : Fin 256) (q : Fin 128) :
    qCodes v (ix2 r q) = codeK (amax v (ix1 r) * Ideal.ofBits .f32 0x3B124925#32) (v (ix2 r q)) := by
  rw [← z_apply (amax v) r q, codeK, ← e_apply]
  rfl

theorem qScale_apply (v : FVec Ideal S256x128 .bf16) (r : Fin 256) :
    qScale v (ix3 0 0 r) = scaleK (amax v (ix1 r) * Ideal.ofBits .f32 0x3B124925#32) := by
  rw [← z_apply (amax v) r 0, scaleK, ← e_apply]
  pointwise [qScale, k0_pay275, k0_pay274]

end Cert.KernelIdeal.Hand
-- ==== Proof.KByte.lean ====
module

public import proofs.«01_k».proof.Proof.KVocab
public import Idealize.ShloMosaic.Lib.Pointwise
public import Idealize.ShloMosaic.Lib.BitcastFour
public import Idealize.ShloMosaic.Lib.Pipeline.ValueKit.Point

@[expose] public section

set_option maxRecDepth 16384

noncomputable section

namespace Cert.KernelIdeal.Hand

open Idealize.ShloMosaic
open Cert.KernelIdeal.Gen

/-! ## The six-bit codes, byte by byte -/

/-- A word of codes from a word of low nibbles and a word of high bits, the latter with its sign bits turned. -/
def wordF (f : Fin 4) (A B : BitVec 32) : BitVec 32 :=
  ![(A <<< 2 &&& 0x3C3C3C3C#32) ||| (B <<< 6 &&& 0xC0C0C0C0#32), (A <<< 2 &&& 0x3C3C3C3C#32) ||| (B <<< 4 &&& 0xC0C0C0C0#32),
    (A.sshiftRight 2 &&& 0x3C3C3C3C#32) ||| (B <<< 2 &&& 0xC0C0C0C0#32), (A.sshiftRight 2 &&& 0x3C3C3C3C#32) ||| (B &&& 0xC0C0C0C0#32)] f

/-- A byte of codes from a byte of low nibbles and a byte of high bits. -/
def byteK (f : Fin 4) (a b : BitVec 8) : BitVec 8 :=
  ![(a <<< 2 &&& 0x3C#8) ||| ((b ^^^ 0xAA#8) <<< 6 &&& 0xC0#8), (a <<< 2 &&& 0x3C#8) ||| ((b ^^^ 0xAA#8) <<< 4 &&& 0xC0#8),
    (a >>> 2 &&& 0x3C#8) ||| ((b ^^^ 0xAA#8) <<< 2 &&& 0xC0#8), (a >>> 2 &&& 0x3C#8) ||| ((b ^^^ 0xAA#8) &&& 0xC0#8)] f

theorem wordF_getLsbD (f : Fin 4) (A B : BitVec 32) (a b : BitVec 8) (n : ℕ) (hn : n < 4)
    (hA : ∀ i, i < 8 → A.getLsbD (8 * n + i) = a.getLsbD i) (hB : ∀ i, i < 8 → B.getLsbD (8 * n + i) = b.getLsbD i) (i : ℕ) (hi : i < 8) :
    (wordF f A (B ^^^ 0xAAAAAAAA#32)).getLsbD (8 * n + i) = (byteK f a b).getLsbD i := by
  have a0 := hA 0 (by decide); have a1 := hA 1 (by decide); have a2 := hA 2 (by decide); have a3 := hA 3 (by decide)
  have a4 := hA 4 (by decide); have a5 := hA 5 (by decide); have a6 := hA 6 (by decide); have a7 := hA 7 (by decide)
  have b0 := hB 0 (by decide); have b1 := hB 1 (by decide); have b2 := hB 2 (by decide); have b3 := hB 3 (by decide)
  have b4 := hB 4 (by decide); have b5 := hB 5 (by decide); have b6 := hB 6 (by decide); have b7 := hB 7 (by decide)
  clear hA hB
  interval_cases n <;> simp only [Nat.mul_zero, Nat.mul_one, Nat.zero_add, Nat.reduceMul, Nat.reduceAdd] at a0 a1 a2 a3 a4 a5 a6 a7 b0 b1 b2 b3 b4 b5 b6 b7 ⊢ <;>
    simp only [BitVec.getLsbD_eq_getElem, Nat.reduceLT] at a0 a1 a2 a3 a4 a5 a6 a7 b0 b1 b2 b3 b4 b5 b6 b7 <;>
    interval_cases i <;> fin_cases f <;>
    simp [wordF, byteK, BitVec.getElem_sshiftRight, a0, a1, a2, a3, a4, a5, a6, a7, b0, b1, b2, b3, b4, b5, b6, b7]

theorem word_eq (ql : Vec Ideal S64x256 .i8) (qh : Vec Ideal S32x256 .i8) (f : Fin 4) (r : Fin 8) (q : Fin 256) :
    word ql qh f (ix2 r q) = wordF f (k0_pay15 ql (ix2 ⟨8 * (f.val % 2) + r.val, by omega⟩ q)) (k0_pay18 qh (ix2 r q)) := by
  have h2 : ∀ A : BitVec 32, IntOp.shrsi .vector A 2#32 = A.sshiftRight 2 := fun A => rfl
  fin_cases f
  · pointwise [word, k0_pay19, k0_pay16]
    rfl
  · pointwise [word, k0_pay20, k0_pay17]
    rfl
  · pointwise [word, k0_pay21, k0_pay22, k0_pay23, k0_pay16]
    rfl
  · pointwise [word, k0_pay17]
    rfl

theorem byte_apply (ql : Vec Ideal S64x256 .i8) (qh : Vec Ideal S32x256 .i8) (f : Fin 4) (R : Fin 32) (q : Fin 256) :
    bitcast S32x256 8 (word ql qh f) bitcasts_S8x256_w32_S32x256_w8 (ix2 R q)
      = byteK f (ql (ix2 ⟨32 * (f.val % 2) + R.val, by omega⟩ q)) (qh (ix2 R q)) := by
  apply BitVec.eq_of_getLsbD_eq
  intro i hi
  rw [bitcast_getLsbD _ _ _ i hi (by decide)]
  have hs : (bitcasts_S8x256_w32_S32x256_w8).srcIdx (ix2 R q) ((S32x256.row (ix2 R q) * 8 + i) / 32) (fun a ha =>
          (Nat.div_lt_iff_lt_mul (by decide)).2 ((bitcasts_S8x256_w32_S32x256_w8).pos_lt (ix2 R q) i hi a ha)) = ix2 ⟨R.val / 4, by omega⟩ q := by
    have hrow : S32x256.row (ix2 R q) = R.val := rfl
    funext c
    match c with
    | ⟨0, _⟩ => exact Fin.ext ((Shape.Bitcasts.srcIdx_row _ _ _ _ ⟨0, Nat.zero_lt_two⟩ rfl).trans (by rw [hrow]; show _ = R.val / 4; omega))
    | ⟨1, _⟩ => exact Fin.ext (Shape.Bitcasts.srcIdx_other _ _ _ _ ⟨1, Nat.one_lt_two⟩ (by show ¬ 1 + 2 = 2; omega))
  rw [hs, word_eq]
  have hrow : S32x256.row (ix2 R q) = R.val := rfl
  have hq : (S32x256.row (ix2 R q) * 8 + i) % 32 = 8 * (R.val % 4) + i := by rw [hrow]; omega
  rw [hq]
  have hx : k0_pay18 qh (ix2 ⟨R.val / 4, by omega⟩ q) = (bitcast S8x256 32 qh bitcasts_S32x256_w8_S8x256_w32) (ix2 ⟨R.val / 4, by omega⟩ q) ^^^ 0xAAAAAAAA#32 := by
    pointwise [k0_pay18]
    rfl
  have hy : k0_pay15 ql = bitcast S16x256 32 ql bitcasts_S64x256_w8_S16x256_w32 := by
    unfold k0_pay15
    dsimp only
    rw [shapeCast_self]
  rw [hx, hy]
  refine wordF_getLsbD f _ _ _ _ (R.val % 4) (by omega) (fun j hj => ?_) (fun j hj => ?_) i hi
  · have := bitcast_8_32_getLsbD_ix2 ql bitcasts_S64x256_w8_S16x256_w32 ⟨8 * (f.val % 2) + R.val / 4, by omega⟩ q (8 * (R.val % 4) + j) (by omega)
      ⟨32 * (f.val % 2) + R.val, by omega⟩ (by show 32 * (f.val % 2) + R.val = 4 * (8 * (f.val % 2) + R.val / 4) + (8 * (R.val % 4) + j) / 8; omega)
    rw [show (8 * (R.val % 4) + j) % 8 = j by omega] at this
    exact this
  · have := bitcast_8_32_getLsbD_ix2 qh bitcasts_S32x256_w8_S8x256_w32 ⟨R.val / 4, by omega⟩ q (8 * (R.val % 4) + j) (by omega)
      R (by show R.val = 4 * (R.val / 4) + (8 * (R.val % 4) + j) / 8; omega)
    rw [show (8 * (R.val % 4) + j) % 8 = j by omega] at this
    exact this

theorem pc_apply (o : ℕ) (ho : S32x256.Slices ![o, 0] S16x256) (ho' : o + 16 ≤ 32) (r : ℕ) (hr : S16x256.Slices ![r, 0] S1x256) (hr' : r < 16) (w : IVec S8x256 32)
    (raw : Vec Ideal S8x2x256 .bf16) (k : Fin 16) (q : Fin 256) :
    pc o ho r hr w raw (ix2 k q) = (FloatOps.sitofp .bf16 (bitcast S32x256 8 w bitcasts_S8x256_w32_S32x256_w8 (ix2 ⟨o + k.val, by omega⟩ q)) : Ideal .bf16)
      * k0_pay24 raw (ix2 ⟨r, hr'⟩ q) := by
  pointwise [pc]

theorem blk_apply (ql : Vec Ideal S64x256 .i8) (qh : Vec Ideal S32x256 .i8) (raw : Vec Ideal S8x2x256 .bf16) (p : Fin 8) (k : Fin 16) (q : Fin 256) :
    blk ql qh raw p (ix2 k q) = (FloatOps.sitofp .bf16 (bitcast S32x256 8 (word ql qh ⟨p.val / 2, by omega⟩) bitcasts_S8x256_w32_S32x256_w8
        (ix2 ⟨16 * (p.val % 2) + k.val, by omega⟩ q)) : Ideal .bf16)
      * k0_pay24 raw (ix2 ⟨2 * p.val, by omega⟩ q) := by
  unfold blk
  fin_cases p <;> exact pc_apply _ _ (by decide) _ _ (by decide) _ _ k q

end Cert.KernelIdeal.Hand
-- ==== Proof.KCh.lean ====
module

public import proofs.«01_k».proof.Proof.KVal
public import proofs.«01_k».proof.Proof.KByte

@[expose] public section

set_option maxRecDepth 16384

noncomputable section

namespace Cert.KernelIdeal.Hand

open Idealize.ShloMosaic
open Cert.KernelIdeal.Gen

/-! ## A block of the results, entry by entry -/

/-- Weight `k` of an output column, from the column's codes and scales. -/
def wK (a1 : Fin 768 → BitVec 8) (a2 : Fin 384 → BitVec 8) (a3 : Fin 6 → Fin 16 → BitVec 8) (a4 : Fin 6 → BitVec 16) (k : Fin 1536) : EReal :=
  (FloatOps.sitofp .bf16 (byteK ⟨k.val % 128 / 32, by omega⟩
      (a1 ⟨64 * (k.val / 128) + (32 * (k.val % 128 / 32 % 2) + k.val % 32), by omega⟩) (a2 ⟨32 * (k.val / 128) + k.val % 32, by omega⟩)) : Ideal .bf16)
    * (dK (a4 ⟨k.val / 256, by omega⟩) * (FloatOps.sitofp .f32 (a3 ⟨k.val / 256, by omega⟩ ⟨8 * (k.val / 128 % 2) + k.val % 128 / 16, by omega⟩) : Ideal .f32))

/-- An entry of the product. -/
def yE (x : Fin 1536 → EReal) (a1 : Fin 768 → BitVec 8) (a2 : Fin 384 → BitVec 8) (a3 : Fin 6 → Fin 16 → BitVec 8) (a4 : Fin 6 → BitVec 16) : EReal :=
  ∑ k : Fin 1536, x k * wK a1 a2 a3 a4 k

theorem wmat_ofFn (W : Fin 12 → Fin 8 → FVec Ideal S16x256 .bf16)
    (h : Shape.Concatenates ((List.ofFn fun n : Fin 96 => (⟨S16x256, W ⟨n.val / 8, by omega⟩ ⟨n.val % 8, by omega⟩⟩ : (s : Shape) × (s.Idx → EReal))).map (·.1)) S1536x256 0) :
    wmat W = concatenate S1536x256 0 (List.ofFn fun n : Fin 96 => (⟨S16x256, W ⟨n.val / 8, by omega⟩ ⟨n.val % 8, by omega⟩⟩ : (s : Shape) × (s.Idx → EReal))) h := by
  rfl

theorem wmat_apply (W : Fin 12 → Fin 8 → FVec Ideal S16x256 .bf16) (k : Fin 1536) (q : Fin 256) :
    wmat W (ix2 k q) = W ⟨k.val / 128, by omega⟩ ⟨k.val % 128 / 16, by omega⟩ (ix2 ⟨k.val % 16, by omega⟩ q) := by
  have hcat : Shape.Concatenates ((List.ofFn fun n : Fin 96 => (⟨S16x256, W ⟨n.val / 8, by omega⟩ ⟨n.val % 8, by omega⟩⟩ : (s : Shape) × (s.Idx → EReal))).map (·.1)) S1536x256 0 :=
    concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S1536x256_d0
  refine (congrFun (wmat_ofFn W hcat) _).trans ?_
  refine (concatenate_ofFn_apply (0 : Fin S1536x256.rank) (fun n : Fin 96 => W ⟨n.val / 8, by omega⟩ ⟨n.val % 8, by omega⟩) hcat rfl 16 rfl (ix2 k q)
    ⟨k.val / 16, by omega⟩ rfl (ix2 ⟨k.val % 16, by omega⟩ q) rfl (fun b hb => by
      match b with
      | ⟨0, _⟩ => exact absurd rfl hb
      | ⟨1, _⟩ => rfl)).trans ?_
  have h1 : (⟨k.val / 16 / 8, by omega⟩ : Fin 12) = ⟨k.val / 128, by omega⟩ := Fin.ext (by show k.val / 16 / 8 = k.val / 128; omega)
  have h2 : (⟨k.val / 16 % 8, by omega⟩ : Fin 8) = ⟨k.val % 128 / 16, by omega⟩ := Fin.ext (by show k.val / 16 % 8 = k.val % 128 / 16; omega)
  show W ⟨k.val / 16 / 8, _⟩ ⟨k.val / 16 % 8, _⟩ _ = _
  rw [h1, h2]

theorem yCh_apply (v : View sig .tc .vmem S96x2x1024 .bf16) (x0 : Vec Ideal S256x1536 .bf16) (x1 : Vec Ideal S768x1024 .i8) (x2 : Vec Ideal S384x1024 .i8)
    (x3 : Vec Ideal S6x16x1024 .i8) (x4 : Vec Ideal S6x1024 .i16) (c : Fin 4) (r q : Fin 256) (j : Fin 1024) (hj : j.val = 256 * c.val + q.val) :
    yCh v x0 x1 x2 x3 x4 c (ix2 r q)
      = yE (fun k => x0 (ix2 r k)) (fun i => x1 (ix2 i j)) (fun i => x2 (ix2 i j)) (fun n s => x3 (ix3 n s j)) (fun n => x4 (ix2 n j)) := by
  unfold yCh yE
  rw [yOf_apply]
  refine Finset.sum_congr rfl fun k _ => ?_
  rw [wmat_apply, blk_apply, raw24_apply, rawOf_apply, byte_apply]
  have ej : (⟨256 * c.val + q.val, by omega⟩ : Fin 1024) = j := Fin.ext hj.symm
  have hx : View.ld x0 rX (ix2 r k) = x0 (ix2 r k) := congrArg x0 (by
    funext a; apply Fin.ext
    match a with
    | ⟨0, _⟩ => show 0 + 1 * r.val = r.val; omega
    | ⟨1, _⟩ => show 0 + 1 * k.val = k.val; omega)
  have h1 : ∀ (n : Fin 12) (i : Fin 64) (i' : Fin 768), i'.val = 64 * n.val + i.val → View.ld x1 (rQl c n) (ix2 i q) = x1 (ix2 i' j) := fun n i i' h => congrArg x1 (by
    funext a; apply Fin.ext
    match a with
    | ⟨0, _⟩ => show 64 * n.val + 1 * i.val = i'.val; omega
    | ⟨1, _⟩ => show 256 * c.val + 1 * q.val = j.val; omega)
  have h2 : ∀ (n : Fin 12) (i : Fin 32) (i' : Fin 384), i'.val = 32 * n.val + i.val → View.ld x2 (rQh c n) (ix2 i q) = x2 (ix2 i' j) := fun n i i' h => congrArg x2 (by
    funext a; apply Fin.ext
    match a with
    | ⟨0, _⟩ => show 32 * n.val + 1 * i.val = i'.val; omega
    | ⟨1, _⟩ => show 256 * c.val + 1 * q.val = j.val; omega)
  rw [hx, ej, h1 _ _ ⟨64 * (k.val / 128) + (32 * (k.val % 128 / 32 % 2) + k.val % 32), by omega⟩ (by
      show 64 * (k.val / 128) + (32 * (k.val % 128 / 32 % 2) + k.val % 32) = 64 * (k.val / 128) + (32 * (k.val % 128 / 16 / 2 % 2) + (16 * (k.val % 128 / 16 % 2) + k.val % 16))
      omega),
    h2 _ _ ⟨32 * (k.val / 128) + k.val % 32, by omega⟩ (by
      show 32 * (k.val / 128) + k.val % 32 = 32 * (k.val / 128) + (16 * (k.val % 128 / 16 % 2) + k.val % 16)
      omega)]
  have e1 : (⟨k.val % 128 / 16 / 2, by omega⟩ : Fin 4) = ⟨k.val % 128 / 32, by omega⟩ := Fin.ext (by show k.val % 128 / 16 / 2 = k.val % 128 / 32; omega)
  have e2 : (⟨k.val / 128 / 2, by omega⟩ : Fin 6) = ⟨k.val / 256, by omega⟩ := Fin.ext (by show k.val / 128 / 2 = k.val / 256; omega)
  have e3 : (⟨8 * (k.val / 128 % 2) + 2 * (k.val % 128 / 16) / 2, by omega⟩ : Fin 16) = ⟨8 * (k.val / 128 % 2) + k.val % 128 / 16, by omega⟩ :=
    Fin.ext (by show 8 * (k.val / 128 % 2) + 2 * (k.val % 128 / 16) / 2 = 8 * (k.val / 128 % 2) + k.val % 128 / 16; omega)
  unfold wK
  simp only [e1, e2, e3]

/-- The scaled maximum of a group of 128 entries. -/
def zE (y : Fin 128 → EReal) : EReal :=
  Finset.fold max (Ideal.ofBits FTy.bf16 65408#16) (fun x => (FloatOps.absf (F := Ideal) (φ := .bf16) (y x))) Finset.univ * Ideal.ofBits .f32 0x3B124925#32

theorem grp_apply (y : FVec Ideal S256x256 .bf16) (g : Fin 2) (r : Fin 256) (q : Fin 128) :
    grp y g (ix2 r q) = y (ix2 r ⟨128 * g.val + q.val, by omega⟩) := by
  fin_cases g
  · pointwise [grp]
  · pointwise [grp]

theorem amax_grp (y : FVec Ideal S256x256 .bf16) (g : Fin 2) (r : Fin 256) :
    amax (grp y g) (ix1 r) * Ideal.ofBits .f32 0x3B124925#32 = zE (fun q => y (ix2 r ⟨128 * g.val + q.val, by omega⟩)) := by
  unfold zE
  rw [amax_apply]
  simp only [grp_apply]

section
variable (v : View sig .tc .vmem S96x2x1024 .bf16) (x0 : Vec Ideal S256x1536 .bf16) (x1 : Vec Ideal S768x1024 .i8) (x2 : Vec Ideal S384x1024 .i8)
    (x3 : Vec Ideal S6x16x1024 .i8) (x4 : Vec Ideal S6x1024 .i16)

/-- An entry of a block of the product. -/
def yB (r : Fin 256) (j : Fin 1024) : EReal :=
  yE (fun k => x0 (ix2 r k)) (fun i => x1 (ix2 i j)) (fun i => x2 (ix2 i j)) (fun n s => x3 (ix3 n s j)) (fun n => x4 (ix2 n j))

/-- The scaled maximum of a group of a block. -/
def zB (r : Fin 256) (g : Fin 8) : EReal := zE fun q => yB x0 x1 x2 x3 x4 r ⟨128 * g.val + q.val, by omega⟩

theorem canonY_apply (r : Fin 256) (j : Fin 1024) : View.canon (lY v x0 x1 x2 x3 x4) (ix2 r j) = yB x0 x1 x2 x3 x4 r j := by
  have hit : ∀ (c : Fin 4) (w : (rY c).shape.Idx → Elt Ideal .bf16) L (q : Fin 256), j.val = 256 * c.val + q.val →
      View.canon (⟨rY c, w⟩ :: L) (ix2 r j) = w (ix2 r q) := fun c w L q h => by
    rw [show (ix2 r j : S256x1024.Idx) = (rY c).emb (ix2 r q) from ?_, View.canon_cons_emb]
    funext a; apply Fin.ext
    match a with
    | ⟨0, _⟩ => show r.val = 0 + 1 * r.val; omega
    | ⟨1, _⟩ => show j.val = 256 * c.val + 1 * q.val; omega
  have miss : ∀ (c : Fin 4) (w : (rY c).shape.Idx → Elt Ideal .bf16) L, j.val < 256 * c.val →
      View.canon (⟨rY c, w⟩ :: L) (ix2 r j) = View.canon L (ix2 r j) := fun c w L h => by
    refine View.canon_cons_of_not_mem _ _ fun h' => ?_
    rw [Rect.mem_set_unit] at h'
    have h0 := (h' 1).1
    change 256 * c.val ≤ j.val at h0
    omega
  unfold lY yB
  by_cases h3 : 768 ≤ j.val
  · rw [hit 3 _ _ ⟨j.val - 768, by omega⟩ (by show j.val = 768 + (j.val - 768); omega)]
    exact yCh_apply _ _ _ _ _ _ 3 _ _ _ (by show j.val = 768 + (j.val - 768); omega)
  rw [miss 3 _ _ (by show j.val < 768; omega)]
  by_cases h2 : 512 ≤ j.val
  · rw [hit 2 _ _ ⟨j.val - 512, by omega⟩ (by show j.val = 512 + (j.val - 512); omega)]
    exact yCh_apply _ _ _ _ _ _ 2 _ _ _ (by show j.val = 512 + (j.val - 512); omega)
  rw [miss 2 _ _ (by show j.val < 512; omega)]
  by_cases h1 : 256 ≤ j.val
  · rw [hit 1 _ _ ⟨j.val - 256, by omega⟩ (by show j.val = 256 + (j.val - 256); omega)]
    exact yCh_apply _ _ _ _ _ _ 1 _ _ _ (by show j.val = 256 + (j.val - 256); omega)
  rw [miss 1 _ _ (by show j.val < 256; omega)]
  rw [hit 0 _ _ ⟨j.val, by omega⟩ (by show j.val = 0 + j.val; omega)]
  exact yCh_apply _ _ _ _ _ _ 0 _ _ _ (by show j.val = 0 + j.val; omega)

/-- The group of a block that a store of codes or scales is made from. -/
def gB (g : Fin 8) : FVec Ideal S256x128 .bf16 := grp (yCh v x0 x1 x2 x3 x4 ⟨g.val / 2, by omega⟩) ⟨g.val % 2, by omega⟩

theorem gB_apply (g : Fin 8) (r : Fin 256) (q : Fin 128) : gB v x0 x1 x2 x3 x4 g (ix2 r q) = yB x0 x1 x2 x3 x4 r ⟨128 * g.val + q.val, by omega⟩ := by
  unfold gB
  rw [grp_apply]
  exact yCh_apply _ _ _ _ _ _ _ _ _ _ (by show 128 * g.val + q.val = 256 * (g.val / 2) + (128 * (g.val % 2) + q.val); omega)

theorem gB_amax (g : Fin 8) (r : Fin 256) : amax (gB v x0 x1 x2 x3 x4 g) (ix1 r) * Ideal.ofBits .f32 0x3B124925#32 = zB x0 x1 x2 x3 x4 r g := by
  unfold zB zE
  rw [amax_apply]
  simp only [gB_apply]

theorem lC_eq : lC v x0 x1 x2 x3 x4 = [⟨rC 7, qCodes (gB v x0 x1 x2 x3 x4 7)⟩, ⟨rC 6, qCodes (gB v x0 x1 x2 x3 x4 6)⟩, ⟨rC 5, qCodes (gB v x0 x1 x2 x3 x4 5)⟩,
    ⟨rC 4, qCodes (gB v x0 x1 x2 x3 x4 4)⟩, ⟨rC 3, qCodes (gB v x0 x1 x2 x3 x4 3)⟩, ⟨rC 2, qCodes (gB v x0 x1 x2 x3 x4 2)⟩, ⟨rC 1, qCodes (gB v x0 x1 x2 x3 x4 1)⟩,
    ⟨rC 0, qCodes (gB v x0 x1 x2 x3 x4 0)⟩] := rfl

theorem lS_eq : lS v x0 x1 x2 x3 x4 = [⟨rR 7, qScale (gB v x0 x1 x2 x3 x4 7)⟩, ⟨rR 6, qScale (gB v x0 x1 x2 x3 x4 6)⟩, ⟨rR 5, qScale (gB v x0 x1 x2 x3 x4 5)⟩,
    ⟨rR 4, qScale (gB v x0 x1 x2 x3 x4 4)⟩, ⟨rR 3, qScale (gB v x0 x1 x2 x3 x4 3)⟩, ⟨rR 2, qScale (gB v x0 x1 x2 x3 x4 2)⟩, ⟨rR 1, qScale (gB v x0 x1 x2 x3 x4 1)⟩,
    ⟨rR 0, qScale (gB v x0 x1 x2 x3 x4 0)⟩] := rfl

theorem canonC_apply (r : Fin 256) (j : Fin 1024) :
    View.canon (lC v x0 x1 x2 x3 x4) (ix2 r j) = codeK (zB x0 x1 x2 x3 x4 r ⟨j.val / 128, by omega⟩) (yB x0 x1 x2 x3 x4 r j) := by
  have hit : ∀ (g : Fin 8) (L : List (View.Piece (Elt Ideal) S256x1024 .fp8e4m3)), j.val / 128 = g.val →
      View.canon (⟨rC g, qCodes (gB v x0 x1 x2 x3 x4 g)⟩ :: L) (ix2 r j) = codeK (zB x0 x1 x2 x3 x4 r ⟨j.val / 128, by omega⟩) (yB x0 x1 x2 x3 x4 r j) := fun g L h => by
    rw [show (ix2 r j : S256x1024.Idx) = (rC g).emb (ix2 r ⟨j.val % 128, by omega⟩) from ?_, View.canon_cons_emb]
    · rw [qCodes_apply, gB_amax, gB_apply]
      rw [show (⟨j.val / 128, by omega⟩ : Fin 8) = g from Fin.ext h]
      congr 2
      exact Fin.ext (by show 128 * g.val + j.val % 128 = j.val; omega)
    · funext a; apply Fin.ext
      match a with
      | ⟨0, _⟩ => show r.val = 0 + 1 * r.val; omega
      | ⟨1, _⟩ => show j.val = 128 * g.val + 1 * (j.val % 128); omega
  have miss : ∀ (g : Fin 8) (w : (rC g).shape.Idx → Elt Ideal .fp8e4m3) L, ¬ j.val / 128 = g.val →
      View.canon (⟨rC g, w⟩ :: L) (ix2 r j) = View.canon L (ix2 r j) := fun g w L h => by
    refine View.canon_cons_of_not_mem _ _ fun h' => ?_
    rw [Rect.mem_set_unit] at h'
    have h0 := h' 1
    change 128 * g.val ≤ j.val ∧ j.val < 128 * g.val + 128 at h0
    omega
  rw [lC_eq]
  by_cases h7 : j.val / 128 = (7 : Fin 8).val
  · rw [hit 7 _ h7]
  rw [miss 7 _ _ h7]
  by_cases h6 : j.val / 128 = (6 : Fin 8).val
  · rw [hit 6 _ h6]
  rw [miss 6 _ _ h6]
  by_cases h5 : j.val / 128 = (5 : Fin 8).val
  · rw [hit 5 _ h5]
  rw [miss 5 _ _ h5]
  by_cases h4 : j.val / 128 = (4 : Fin 8).val
  · rw [hit 4 _ h4]
  rw [miss 4 _ _ h4]
  by_cases h3 : j.val / 128 = (3 : Fin 8).val
  · rw [hit 3 _ h3]
  rw [miss 3 _ _ h3]
  by_cases h2 : j.val / 128 = (2 : Fin 8).val
  · rw [hit 2 _ h2]
  rw [miss 2 _ _ h2]
  by_cases h1 : j.val / 128 = (1 : Fin 8).val
  · rw [hit 1 _ h1]
  rw [miss 1 _ _ h1]
  rw [hit 0 _ (by show j.val / 128 = 0; change ¬ j.val / 128 = 7 at h7; change ¬ j.val / 128 = 6 at h6; change ¬ j.val / 128 = 5 at h5; change ¬ j.val / 128 = 4 at h4; change ¬ j.val / 128 = 3 at h3; change ¬ j.val / 128 = 2 at h2; change ¬ j.val / 128 = 1 at h1; omega)]

theorem canonS_apply (g : Fin 8) (r : Fin 256) :
    View.canon (lS v x0 x1 x2 x3 x4) (ix3 g 0 r) = scaleK (zB x0 x1 x2 x3 x4 r g) := by
  have hit : ∀ (g' : Fin 8) (L : List (View.Piece (Elt Ideal) S8x1x256 .f32)), g = g' →
      View.canon (⟨rR g', qScale (gB v x0 x1 x2 x3 x4 g')⟩ :: L) (ix3 g 0 r) = scaleK (zB x0 x1 x2 x3 x4 r g) := fun g' L h => by
    subst h
    rw [show (ix3 g 0 r : S8x1x256.Idx) = (rR g).emb (ix3 0 0 r) from ?_, View.canon_cons_emb]
    · rw [qScale_apply, gB_amax]
    · funext a; apply Fin.ext
      match a with
      | ⟨0, _⟩ => show g.val = g.val + 1 * 0; omega
      | ⟨1, _⟩ => rfl
      | ⟨2, _⟩ => show r.val = 0 + 1 * r.val; omega
  have miss : ∀ (g' : Fin 8) (w : (rR g').shape.Idx → Elt Ideal .f32) L, ¬ g = g' →
      View.canon (⟨rR g', w⟩ :: L) (ix3 g 0 r) = View.canon L (ix3 g 0 r) := fun g' w L h => by
    refine View.canon_cons_of_not_mem _ _ fun h' => ?_
    rw [Rect.mem_set_unit] at h'
    have h0 := h' 0
    change g'.val ≤ g.val ∧ g.val < g'.val + 1 at h0
    exact h (Fin.ext (by omega))
  rw [lS_eq]
  by_cases h7 : g = 7
  · rw [hit 7 _ h7]
  rw [miss 7 _ _ h7]
  by_cases h6 : g = 6
  · rw [hit 6 _ h6]
  rw [miss 6 _ _ h6]
  by_cases h5 : g = 5
  · rw [hit 5 _ h5]
  rw [miss 5 _ _ h5]
  by_cases h4 : g = 4
  · rw [hit 4 _ h4]
  rw [miss 4 _ _ h4]
  by_cases h3 : g = 3
  · rw [hit 3 _ h3]
  rw [miss 3 _ _ h3]
  by_cases h2 : g = 2
  · rw [hit 2 _ h2]
  rw [miss 2 _ _ h2]
  by_cases h1 : g = 1
  · rw [hit 1 _ h1]
  rw [miss 1 _ _ h1]
  rw [hit 0 _ (by omega)]

end

end Cert.KernelIdeal.Hand
-- ==== Proof.KRun.lean ====
module

public import proofs.«01_k».proof.Proof.KCh
public import proofs.«01_k».proof.Proof.KernelIdealFrame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

local notation "𝕄" => MT nD τ sig Unit (Elt Ideal) ℕ (UR sig nD τ) ℕ

/-! ## The results as functions of the arrays the kernel is given -/

section
variable (X0 : S256x1536.Idx → EReal) (X1 : S768x151936.Idx → BitVec 8) (X2 : S384x151936.Idx → BitVec 8)
  (X3 : S6x16x151936.Idx → BitVec 8) (X4 : S6x151936.Idx → BitVec 16)

/-- An entry of the product. -/
def yG (r : Fin 256) (J : Fin 151936) : EReal :=
  yE (fun k => X0 (ix2 r k)) (fun i => X1 (ix2 i J)) (fun i => X2 (ix2 i J)) (fun n s => X3 (ix3 n s J)) (fun n => X4 (ix2 n J))

/-- The scaled maximum of a group. -/
def zG (r : Fin 256) (g : Fin 1187) : EReal := zE fun q => yG X0 X1 X2 X3 X4 r ⟨128 * g.val + q.val, by omega⟩

/-- The product. -/
def GY : S256x151936.Idx → EReal := fun i => yG X0 X1 X2 X3 X4 (i 0) (i 1)
/-- The codes. -/
def GC : S256x151936.Idx → EReal := fun i =>
  codeK (zG X0 X1 X2 X3 X4 (i 0) ⟨(i 1).val / 128, by have : (i 1).val < 151936 := (i 1).isLt; omega⟩) (yG X0 X1 X2 X3 X4 (i 0) (i 1))
/-- The scales. -/
def GS : S1187x1x256.Idx → EReal := fun i => scaleK (zG X0 X1 X2 X3 X4 (i 2) (i 0))

end

/-! ## The windows -/

theorem coords0 : ∀ t : Fin cfg0.N, (grid0.coords t 0).val = t.val := by decide +kernel

theorem lt_N (t : Fin cfg0.N) : t.val < 149 := N_0 ▸ t.isLt

theorem toNat_coord (t : Fin cfg0.N) : (BitVec.ofNat 32 (grid0.coords t 0).val).toNat = t.val := by
  have := lt_N t
  rw [coords0, BitVec.toNat_ofNat]
  exact Nat.mod_eq_of_lt (by omega)

theorem extent_of (ix k d : ℕ) (h : ix * k < d) : (Pipeline.Clip.of ix k d).extent k = min k (d - ix * k) := by
  unfold Pipeline.Clip.of
  split
  · rename_i h'
    show k = _
    rw [Nat.add_mul] at h'
    omega
  · rename_i h'
    show d - ix * k = _
    rw [Nat.add_mul] at h'
    omega

theorem fill1 (A : S768x151936.Idx → BitVec 8) (t : Fin cfg0.N) (d) (i : Fin 768) (j : Fin 1024) (J : Fin 151936) (hJ : J.val = 1024 * t.val + j.val) :
    win0_1.fill (grid0.coords t) d ((win0_1.blk t).view.read (Elt Ideal) A) (ix2 i j) = A (ix2 i J) := by
  have hm : win0_1.moved (grid0.coords t) (ix2 i j) = true := by
    rw [Window.moved_iff]
    intro a
    match a with
    | ⟨0, _⟩ =>
      show i.val < (Pipeline.Clip.of 0 768 768).extent 768
      exact i.isLt
    | ⟨1, _⟩ =>
      show j.val < (Pipeline.Clip.of (BitVec.ofNat 32 (grid0.coords t 0).val).toNat 1024 151936).extent 1024
      rw [toNat_coord, extent_of _ _ _ (by omega)]; omega
  unfold Window.fill
  rw [dif_pos hm]
  refine congrArg A ?_
  funext a; apply Fin.ext
  match a with
  | ⟨0, _⟩ => show 0 * 768 + 1 * i.val = i.val; omega
  | ⟨1, _⟩ => show (BitVec.ofNat 32 (grid0.coords t 0).val).toNat * 1024 + 1 * j.val = J.val; rw [toNat_coord]; omega

theorem fill2 (A : S384x151936.Idx → BitVec 8) (t : Fin cfg0.N) (d) (i : Fin 384) (j : Fin 1024) (J : Fin 151936) (hJ : J.val = 1024 * t.val + j.val) :
    win0_2.fill (grid0.coords t) d ((win0_2.blk t).view.read (Elt Ideal) A) (ix2 i j) = A (ix2 i J) := by
  have hm : win0_2.moved (grid0.coords t) (ix2 i j) = true := by
    rw [Window.moved_iff]
    intro a
    match a with
    | ⟨0, _⟩ =>
      show i.val < (Pipeline.Clip.of 0 384 384).extent 384
      exact i.isLt
    | ⟨1, _⟩ =>
      show j.val < (Pipeline.Clip.of (BitVec.ofNat 32 (grid0.coords t 0).val).toNat 1024 151936).extent 1024
      rw [toNat_coord, extent_of _ _ _ (by omega)]; omega
  unfold Window.fill
  rw [dif_pos hm]
  refine congrArg A ?_
  funext a; apply Fin.ext
  match a with
  | ⟨0, _⟩ => show 0 * 384 + 1 * i.val = i.val; omega
  | ⟨1, _⟩ => show (BitVec.ofNat 32 (grid0.coords t 0).val).toNat * 1024 + 1 * j.val = J.val; rw [toNat_coord]; omega

theorem fill3 (A : S6x16x151936.Idx → BitVec 8) (t : Fin cfg0.N) (d) (n : Fin 6) (i : Fin 16) (j : Fin 1024) (J : Fin 151936) (hJ : J.val = 1024 * t.val + j.val) :
    win0_3.fill (grid0.coords t) d ((win0_3.blk t).view.read (Elt Ideal) A) (ix3 n i j) = A (ix3 n i J) := by
  have hm : win0_3.moved (grid0.coords t) (ix3 n i j) = true := by
    rw [Window.moved_iff]
    intro a
    match a with
    | ⟨0, _⟩ =>
      show n.val < (Pipeline.Clip.of 0 6 6).extent 6
      exact n.isLt
    | ⟨1, _⟩ =>
      show i.val < (Pipeline.Clip.of 0 16 16).extent 16
      exact i.isLt
    | ⟨2, _⟩ =>
      show j.val < (Pipeline.Clip.of (BitVec.ofNat 32 (grid0.coords t 0).val).toNat 1024 151936).extent 1024
      rw [toNat_coord, extent_of _ _ _ (by omega)]; omega
  unfold Window.fill
  rw [dif_pos hm]
  refine congrArg A ?_
  funext a; apply Fin.ext
  match a with
  | ⟨0, _⟩ => show 0 * 6 + 1 * n.val = n.val; omega
  | ⟨1, _⟩ => show 0 * 16 + 1 * i.val = i.val; omega
  | ⟨2, _⟩ => show (BitVec.ofNat 32 (grid0.coords t 0).val).toNat * 1024 + 1 * j.val = J.val; rw [toNat_coord]; omega

theorem fill4 (A : S6x151936.Idx → BitVec 16) (t : Fin cfg0.N) (d) (i : Fin 6) (j : Fin 1024) (J : Fin 151936) (hJ : J.val = 1024 * t.val + j.val) :
    win0_4.fill (grid0.coords t) d ((win0_4.blk t).view.read (Elt Ideal) A) (ix2 i j) = A (ix2 i J) := by
  have hm : win0_4.moved (grid0.coords t) (ix2 i j) = true := by
    rw [Window.moved_iff]
    intro a
    match a with
    | ⟨0, _⟩ =>
      show i.val < (Pipeline.Clip.of 0 6 6).extent 6
      exact i.isLt
    | ⟨1, _⟩ =>
      show j.val < (Pipeline.Clip.of (BitVec.ofNat 32 (grid0.coords t 0).val).toNat 1024 151936).extent 1024
      rw [toNat_coord, extent_of _ _ _ (by omega)]; omega
  unfold Window.fill
  rw [dif_pos hm]
  refine congrArg A ?_
  funext a; apply Fin.ext
  match a with
  | ⟨0, _⟩ => show 0 * 6 + 1 * i.val = i.val; omega
  | ⟨1, _⟩ => show (BitVec.ofNat 32 (grid0.coords t 0).val).toNat * 1024 + 1 * j.val = J.val; rw [toNat_coord]; omega

theorem read0 (A : S256x1536.Idx → EReal) (t : Fin cfg0.N) (r : Fin 256) (k : Fin 1536) :
    ((win0_0.blk t).view.read (Elt Ideal) A : S256x1536.Idx → EReal) (ix2 r k) = A (ix2 r k) := by
  refine congrArg A ?_
  funext a; apply Fin.ext
  match a with
  | ⟨0, _⟩ => show 0 * 256 + 1 * r.val = r.val; omega
  | ⟨1, _⟩ => show 0 * 1536 + 1 * k.val = k.val; omega

section
variable (X0 : S256x1536.Idx → EReal) (X1 : S768x151936.Idx → BitVec 8) (X2 : S384x151936.Idx → BitVec 8)
  (X3 : S6x16x151936.Idx → BitVec 8) (X4 : S6x151936.Idx → BitVec 16) (t : Fin cfg0.N)
  (d1 : S768x1024.Idx → BitVec 8) (d2 : S384x1024.Idx → BitVec 8) (d3 : S6x16x1024.Idx → BitVec 8) (d4 : S6x1024.Idx → BitVec 16)

/-- The blocks the body finds at a point: the arrays' inside them, anything outside. -/
abbrev b0 : Vec Ideal S256x1536 .bf16 := (win0_0.blk t).view.read (Elt Ideal) X0
abbrev b1 : Vec Ideal S768x1024 .i8 := win0_1.fill (grid0.coords t) d1 ((win0_1.blk t).view.read (Elt Ideal) X1)
abbrev b2 : Vec Ideal S384x1024 .i8 := win0_2.fill (grid0.coords t) d2 ((win0_2.blk t).view.read (Elt Ideal) X2)
abbrev b3 : Vec Ideal S6x16x1024 .i8 := win0_3.fill (grid0.coords t) d3 ((win0_3.blk t).view.read (Elt Ideal) X3)
abbrev b4 : Vec Ideal S6x1024 .i16 := win0_4.fill (grid0.coords t) d4 ((win0_4.blk t).view.read (Elt Ideal) X4)

theorem yB_eq (r : Fin 256) (j : Fin 1024) (J : Fin 151936) (hJ : J.val = 1024 * t.val + j.val) :
    yB (b0 X0 t) (b1 X1 t d1) (b2 X2 t d2) (b3 X3 t d3) (b4 X4 t d4) r j = yG X0 X1 X2 X3 X4 r J := by
  unfold yB yG
  congr 1
  · funext k; exact read0 X0 t r k
  · funext i; exact fill1 X1 t d1 i j J hJ
  · funext i; exact fill2 X2 t d2 i j J hJ
  · funext n s; exact fill3 X3 t d3 n s j J hJ
  · funext n; exact fill4 X4 t d4 n j J hJ

theorem zB_eq (r : Fin 256) (g : Fin 8) (G : Fin 1187) (hG : G.val = 8 * t.val + g.val) :
    zB (b0 X0 t) (b1 X1 t d1) (b2 X2 t d2) (b3 X3 t d3) (b4 X4 t d4) r g = zG X0 X1 X2 X3 X4 r G := by
  unfold zB zG
  congr 1
  funext q
  exact yB_eq X0 X1 X2 X3 X4 t d1 d2 d3 d4 r _ _ (by show 128 * G.val + q.val = 1024 * t.val + (128 * g.val + q.val); omega)

variable (v : View sig .tc .vmem S96x2x1024 .bf16)

theorem cutY : win0_5.cut (grid0.coords t) (View.canon (lY v (b0 X0 t) (b1 X1 t d1) (b2 X2 t d2) (b3 X3 t d3) (b4 X4 t d4)))
    = (win0_5.blk t).view.read (Elt Ideal) (GY X0 X1 X2 X3 X4) := by
  funext j
  have h0 : (j 0).val < 256 := j 0 |>.isLt
  have h1 : (j 1).val < (Pipeline.Clip.of (BitVec.ofNat 32 (grid0.coords t 0).val).toNat 1024 151936).extent 1024 := j 1 |>.isLt
  have ht := lt_N t
  rw [toNat_coord, extent_of _ _ _ (by omega)] at h1
  have hx : win0_5.xinj (grid0.coords t) j = ix2 (⟨(j 0).val, h0⟩ : Fin 256) (⟨(j 1).val, by omega⟩ : Fin 1024) := by
    funext a; match a with | ⟨0, _⟩ => rfl | ⟨1, _⟩ => rfl
  show View.canon _ (win0_5.xinj (grid0.coords t) j) = _
  rw [hx, canonY_apply, yB_eq _ _ _ _ _ _ _ _ _ _ _ _ ⟨1024 * t.val + (j 1).val, by omega⟩ rfl]
  show _ = yG X0 X1 X2 X3 X4 _ _
  congr 1
  · apply Fin.ext; show (j 0).val = 0 * 256 + 1 * (j 0).val; omega
  · apply Fin.ext; show _ = (BitVec.ofNat 32 (grid0.coords t 0).val).toNat * 1024 + 1 * (j 1).val; rw [toNat_coord]; show 1024 * t.val + (j 1).val = _; omega

theorem cutC : win0_6.cut (grid0.coords t) (View.canon (lC v (b0 X0 t) (b1 X1 t d1) (b2 X2 t d2) (b3 X3 t d3) (b4 X4 t d4)))
    = (win0_6.blk t).view.read (Elt Ideal) (GC X0 X1 X2 X3 X4) := by
  funext j
  have h0 : (j 0).val < 256 := j 0 |>.isLt
  have h1 : (j 1).val < (Pipeline.Clip.of (BitVec.ofNat 32 (grid0.coords t 0).val).toNat 1024 151936).extent 1024 := j 1 |>.isLt
  have ht := lt_N t
  rw [toNat_coord, extent_of _ _ _ (by omega)] at h1
  have hx : win0_6.xinj (grid0.coords t) j = ix2 (⟨(j 0).val, h0⟩ : Fin 256) (⟨(j 1).val, by omega⟩ : Fin 1024) := by
    funext a; match a with | ⟨0, _⟩ => rfl | ⟨1, _⟩ => rfl
  show View.canon _ (win0_6.xinj (grid0.coords t) j) = _
  rw [hx, canonC_apply, yB_eq _ _ _ _ _ _ _ _ _ _ _ _ ⟨1024 * t.val + (j 1).val, by omega⟩ rfl,
    zB_eq _ _ _ _ _ _ _ _ _ _ _ _ ⟨8 * t.val + (j 1).val / 128, by omega⟩ rfl]
  show _ = codeK (zG X0 X1 X2 X3 X4 _ _) (yG X0 X1 X2 X3 X4 _ _)
  have e0 : (⟨(j 0).val, h0⟩ : Fin 256) = ((win0_6.rect t).emb j) 0 := by
    apply Fin.ext; show (j 0).val = 0 * 256 + 1 * (j 0).val; omega
  have e1 : (⟨1024 * t.val + (j 1).val, by omega⟩ : Fin 151936) = ((win0_6.rect t).emb j) 1 := by
    apply Fin.ext; show _ = (BitVec.ofNat 32 (grid0.coords t 0).val).toNat * 1024 + 1 * (j 1).val; rw [toNat_coord]; show 1024 * t.val + (j 1).val = _; omega
  congr 1
  · congr 1
    apply Fin.ext
    show _ = (((win0_6.rect t).emb j) 1).val / 128
    rw [← e1]
    show 8 * t.val + (j 1).val / 128 = (1024 * t.val + (j 1).val) / 128
    omega
  · congr 1

theorem cutS : win0_7.cut (grid0.coords t) (View.canon (lS v (b0 X0 t) (b1 X1 t d1) (b2 X2 t d2) (b3 X3 t d3) (b4 X4 t d4)))
    = (win0_7.blk t).view.read (Elt Ideal) (GS X0 X1 X2 X3 X4) := by
  funext j
  have h0 : (j 0).val < (Pipeline.Clip.of (BitVec.ofNat 32 (grid0.coords t 0).val).toNat 8 1187).extent 8 := j 0 |>.isLt
  have h1 : (j 1).val < 1 := j 1 |>.isLt
  have h2 : (j 2).val < 256 := j 2 |>.isLt
  have ht := lt_N t
  rw [toNat_coord, extent_of _ _ _ (by omega)] at h0
  have hx : win0_7.xinj (grid0.coords t) j = ix3 (⟨(j 0).val, by omega⟩ : Fin 8) (0 : Fin 1) (⟨(j 2).val, h2⟩ : Fin 256) := by
    funext a; match a with | ⟨0, _⟩ => rfl | ⟨1, _⟩ => exact Fin.ext (by show (j 1).val = 0; omega) | ⟨2, _⟩ => rfl
  show View.canon _ (win0_7.xinj (grid0.coords t) j) = _
  rw [hx, canonS_apply, zB_eq _ _ _ _ _ _ _ _ _ _ _ _ ⟨8 * t.val + (j 0).val, by omega⟩ rfl]
  show _ = scaleK (zG X0 X1 X2 X3 X4 _ _)
  congr 2
  · apply Fin.ext; show (j 2).val = 0 * 256 + 1 * (j 2).val; omega
  · apply Fin.ext; show 8 * t.val + (j 0).val = (BitVec.ofNat 32 (grid0.coords t 0).val).toNat * 8 + 1 * (j 0).val; rw [toNat_coord]; omega

end

end Cert.KernelIdeal.Hand
-- ==== Proof.KExact.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit.Tiles
public import proofs.«01_k».proof.Proof.KVocab

@[expose] public section

set_option maxRecDepth 100000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

variable {F : FTy → Type} [FloatOps F]

local notation "𝕄" => MT nD τ sig Unit (Elt F) ℕ (UR sig nD τ) ℕ

variable (v : View sig .tc .vmem S96x2x1024 .bf16) (x0 : Vec F S256x1536 .bf16) (x1 : Vec F S768x1024 .i8) (x2 : Vec F S384x1024 .i8)
  (x3 : Vec F S6x16x1024 .i8) (x4 : Vec F S6x1024 .i16)

/-- The stores of the product fill its block. -/
theorem coverY : ∀ y, ∃ p ∈ lY v x0 x1 x2 x3 x4, y ∈ p.1.set :=
  fun y => View.cover_of_tiled_head _ _ _ (by rfl) y

/-- The stores of the codes fill their block. -/
theorem coverC : ∀ y, ∃ p ∈ lC v x0 x1 x2 x3 x4, y ∈ p.1.set :=
  fun y => View.cover_of_tiled_head _ _ _ (by rfl) y

/-- The stores of the scales fill their block. -/
theorem coverS : ∀ y, ∃ p ∈ lS v x0 x1 x2 x3 x4, y ∈ p.1.set :=
  fun y => View.cover_of_tiled_head _ _ _ (by rfl) y

/-- A buffer written by a list of stores that fill it reads as they say. -/
theorem read_eq {κ : Kind} {sp : Space} {S : Shape} {e : EltTy} (v : View sig κ sp S e) (f : v.ty.Contents (Elt F)) {L L' : List (View.Piece (Elt F) S e)}
    (h : L = L') (hc : ∀ y, ∃ p ∈ L', y ∈ p.1.set) : View.read (Elt F) v (v.writes (Elt F) f L) = View.canon L' :=
  h ▸ View.read_writes_eq_canon v f L' hc

set_option maxHeartbeats 8000000 in
/-- The kernel body runs on whole buffers: it leaves its inputs as they were, in its outputs the products, codes and
    scales of the input blocks, and something in its scratch buffer. -/
theorem sound_exact (c : Dev nD) (E : Set ℕ) (i : grid0.Coords) (arg1 : Memref sig .tc .vmem S256x1536 .bf16) (harg1 : arg1.IsWhole) (arg2 : Memref sig .tc .vmem S768x1024 .i8) (harg2 : arg2.IsWhole) (arg3 : Memref sig .tc .vmem S384x1024 .i8) (harg3 : arg3.IsWhole) (arg4 : Memref sig .tc .vmem S6x16x1024 .i8) (harg4 : arg4.IsWhole) (arg5 : Memref sig .tc .vmem S6x1024 .i16) (harg5 : arg5.IsWhole) (arg6 : Memref sig .tc .vmem S256x1024 .bf16) (harg6 : arg6.IsWhole) (arg7 : Memref sig .tc .vmem S256x1024 .fp8e4m3) (harg7 : arg7.IsWhole) (arg8 : Memref sig .tc .vmem S8x1x256 .f32) (harg8 : arg8.IsWhole) (arg9 : Memref sig .tc .vmem S96x2x1024 .bf16) (harg9 : arg9.IsWhole)
    (x0 : Vec F S256x1536 .bf16) (x1 : Vec F S768x1024 .i8) (x2 : Vec F S384x1024 .i8) (x3 : Vec F S6x16x1024 .i8) (x4 : Vec F S6x1024 .i16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (View.canon (lY arg9.view x0 x1 x2 x3 x4)) ∗ owns (c : Thread nD τ) arg7 fullShare (View.canon (lC arg9.view x0 x1 x2 x3 x4)) ∗ owns (c : Thread nD τ) arg8 fullShare (View.canon (lS arg9.view x0 x1 x2 x3 x4)) ∗ (∃ d, owns (c : Thread nD τ) arg9 fullShare d)) -∗ K ⟨⟩))
      ⊢ wp frame (wpE (defs₀ (F := F)) Variants.none c none) E (cc0_q6k_linear i arg1 harg1 arg2 harg2 arg3 harg3 arg4 harg4 arg5 harg5 arg6 harg6 arg7 harg7 arg8 harg8 arg9 harg9) K := by
  simp only [cc0_q6k_linear_eq_skeleton]; unfold cc0_q6k_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec_parts
  have w0 : sound_exact.sl.r_142 c arg1 arg2 arg3 arg4 arg5 arg9 f0 f1 f2 f3 f4 = yCh arg9.view (View.read (Elt F) arg1.view f0) (View.read (Elt F) arg2.view f1) (View.read (Elt F) arg3.view f2) (View.read (Elt F) arg4.view f3) (View.read (Elt F) arg5.view f4) 0 := by rfl
  have w1 : sound_exact.sl.r_350 c arg1 arg2 arg3 arg4 arg5 arg9 f0 f1 f2 f3 f4 = yCh arg9.view (View.read (Elt F) arg1.view f0) (View.read (Elt F) arg2.view f1) (View.read (Elt F) arg3.view f2) (View.read (Elt F) arg4.view f3) (View.read (Elt F) arg5.view f4) 1 := by rfl
  have w2 : sound_exact.sl.r_581 c arg1 arg2 arg3 arg4 arg5 arg9 f0 f1 f2 f3 f4 = yCh arg9.view (View.read (Elt F) arg1.view f0) (View.read (Elt F) arg2.view f1) (View.read (Elt F) arg3.view f2) (View.read (Elt F) arg4.view f3) (View.read (Elt F) arg5.view f4) 2 := by rfl
  have w3 : sound_exact.sl.r_781 c arg1 arg2 arg3 arg4 arg5 arg9 f0 f1 f2 f3 f4 = yCh arg9.view (View.read (Elt F) arg1.view f0) (View.read (Elt F) arg2.view f1) (View.read (Elt F) arg3.view f2) (View.read (Elt F) arg4.view f3) (View.read (Elt F) arg5.view f4) 3 := by rfl
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine read_eq _ _ (L' := lY arg9.view (View.read (Elt F) arg1.view f0) (View.read (Elt F) arg2.view f1) (View.read (Elt F) arg3.view f2) (View.read (Elt F) arg4.view f3) (View.read (Elt F) arg5.view f4)) ?_ (coverY _ _ _ _ _ _)
    have hl : ([⟨rY 3, (sound_exact.sl.r_781 c arg1 arg2 arg3 arg4 arg5 arg9 f0 f1 f2 f3 f4)⟩, ⟨rY 2, (sound_exact.sl.r_581 c arg1 arg2 arg3 arg4 arg5 arg9 f0 f1 f2 f3 f4)⟩, ⟨rY 1, (sound_exact.sl.r_350 c arg1 arg2 arg3 arg4 arg5 arg9 f0 f1 f2 f3 f4)⟩, ⟨rY 0, (sound_exact.sl.r_142 c arg1 arg2 arg3 arg4 arg5 arg9 f0 f1 f2 f3 f4)⟩] : List (View.Piece (Elt F) S256x1024 .bf16)) = lY arg9.view (View.read (Elt F) arg1.view f0) (View.read (Elt F) arg2.view f1) (View.read (Elt F) arg3.view f2) (View.read (Elt F) arg4.view f3) (View.read (Elt F) arg5.view f4) := by
      rw [w0, w1, w2, w3]; rfl
    exact hl
  isplitl [H6]
  · iexists _; isplitr; swap; · iexact H6
    ipureintro
    refine read_eq _ _ (L' := lC arg9.view (View.read (Elt F) arg1.view f0) (View.read (Elt F) arg2.view f1) (View.read (Elt F) arg3.view f2) (View.read (Elt F) arg4.view f3) (View.read (Elt F) arg5.view f4)) ?_ (coverC _ _ _ _ _ _)
    have hl : ([⟨rC 7, qCodes (grp (sound_exact.sl.r_781 c arg1 arg2 arg3 arg4 arg5 arg9 f0 f1 f2 f3 f4) 1)⟩, ⟨rC 6, qCodes (grp (sound_exact.sl.r_781 c arg1 arg2 arg3 arg4 arg5 arg9 f0 f1 f2 f3 f4) 0)⟩, ⟨rC 5, qCodes (grp (sound_exact.sl.r_581 c arg1 arg2 arg3 arg4 arg5 arg9 f0 f1 f2 f3 f4) 1)⟩, ⟨rC 4, qCodes (grp (sound_exact.sl.r_581 c arg1 arg2 arg3 arg4 arg5 arg9 f0 f1 f2 f3 f4) 0)⟩, ⟨rC 3, qCodes (grp (sound_exact.sl.r_350 c arg1 arg2 arg3 arg4 arg5 arg9 f0 f1 f2 f3 f4) 1)⟩, ⟨rC 2, qCodes (grp (sound_exact.sl.r_350 c arg1 arg2 arg3 arg4 arg5 arg9 f0 f1 f2 f3 f4) 0)⟩, ⟨rC 1, qCodes (grp (sound_exact.sl.r_142 c arg1 arg2 arg3 arg4 arg5 arg9 f0 f1 f2 f3 f4) 1)⟩, ⟨rC 0, qCodes (grp (sound_exact.sl.r_142 c arg1 arg2 arg3 arg4 arg5 arg9 f0 f1 f2 f3 f4) 0)⟩] : List (View.Piece (Elt F) S256x1024 .fp8e4m3)) = lC arg9.view (View.read (Elt F) arg1.view f0) (View.read (Elt F) arg2.view f1) (View.read (Elt F) arg3.view f2) (View.read (Elt F) arg4.view f3) (View.read (Elt F) arg5.view f4) := by
      rw [w0, w1, w2, w3]; rfl
    exact hl
  isplitl [H7]
  · iexists _; isplitr; swap; · iexact H7
    ipureintro
    refine read_eq _ _ (L' := lS arg9.view (View.read (Elt F) arg1.view f0) (View.read (Elt F) arg2.view f1) (View.read (Elt F) arg3.view f2) (View.read (Elt F) arg4.view f3) (View.read (Elt F) arg5.view f4)) ?_ (coverS _ _ _ _ _ _)
    have hl : ([⟨rR 7, qScale (grp (sound_exact.sl.r_781 c arg1 arg2 arg3 arg4 arg5 arg9 f0 f1 f2 f3 f4) 1)⟩, ⟨rR 6, qScale (grp (sound_exact.sl.r_781 c arg1 arg2 arg3 arg4 arg5 arg9 f0 f1 f2 f3 f4) 0)⟩, ⟨rR 5, qScale (grp (sound_exact.sl.r_581 c arg1 arg2 arg3 arg4 arg5 arg9 f0 f1 f2 f3 f4) 1)⟩, ⟨rR 4, qScale (grp (sound_exact.sl.r_581 c arg1 arg2 arg3 arg4 arg5 arg9 f0 f1 f2 f3 f4) 0)⟩, ⟨rR 3, qScale (grp (sound_exact.sl.r_350 c arg1 arg2 arg3 arg4 arg5 arg9 f0 f1 f2 f3 f4) 1)⟩, ⟨rR 2, qScale (grp (sound_exact.sl.r_350 c arg1 arg2 arg3 arg4 arg5 arg9 f0 f1 f2 f3 f4) 0)⟩, ⟨rR 1, qScale (grp (sound_exact.sl.r_142 c arg1 arg2 arg3 arg4 arg5 arg9 f0 f1 f2 f3 f4) 1)⟩, ⟨rR 0, qScale (grp (sound_exact.sl.r_142 c arg1 arg2 arg3 arg4 arg5 arg9 f0 f1 f2 f3 f4) 0)⟩] : List (View.Piece (Elt F) S8x1x256 .f32)) = lS arg9.view (View.read (Elt F) arg1.view f0) (View.read (Elt F) arg2.view f1) (View.read (Elt F) arg3.view f2) (View.read (Elt F) arg4.view f3) (View.read (Elt F) arg5.view f4) := by
      rw [w0, w1, w2, w3]; rfl
    exact hl
  iexists _, _; isplitr; swap; · iexact H8
  ipureintro; rfl

end Cert.KernelIdeal.Hand
-- ==== Proof.KEnd.lean ====
module

public import proofs.«01_k».proof.Proof.KRun
public import proofs.«01_k».proof.Proof.KExact
public import proofs.«01_k».proof.Proof.KernelIdealFrame
public import Idealize.ShloMosaic.Lib.Pipeline.Value
public import Idealize.ShloMosaic.Lib.StableHlo.RunRead
public import Idealize.ShloMosaic.Lib.Pointwise
public import Idealize.ShloMosaic.Lib.Pipeline.ValueKit.Point

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

local notation "𝕄" => MT nD τ sig Unit (Elt Ideal) ℕ (UR sig nD τ) ℕ

/-! ## The run -/

variable (m : (ℓ : Loc nD τ sig) → Buf (Elt Ideal) ℓ) (ρ : Dev nD → PrngReg)

/-- The three results on core `c`. -/
def HY (c : Dev nD) : S256x151936.Idx → EReal := GY (V m c main_v6) (V m c main_v1) (V m c main_v3) (V m c main_v4) (V m c main_v5)
def HC (c : Dev nD) : S256x151936.Idx → EReal := GC (V m c main_v6) (V m c main_v1) (V m c main_v3) (V m c main_v4) (V m c main_v5)
def HS (c : Dev nD) : S1187x1x256.Idx → EReal := GS (V m c main_v6) (V m c main_v1) (V m c main_v3) (V m c main_v4) (V m c main_v5)

/-- The scales with the groups' axis last. -/
def HT (c : Dev nD) : S1x256x1187.Idx → EReal := transpose S1x256x1187 [1, 2, 0] (HS m c) transposes_S1187x1x256_S1x256x1187_1_2_0

theorem HT_apply (c : Dev nD) (r : Fin 256) (g : Fin 1187) : HT m c (ix3 0 r g) = HS m c (ix3 g 0 r) := by
  pointwise [HT]

/-- The proof data: the arrays as the region finds them; after the body the inputs' blocks as they were and the
    results' blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : BitVec 8)) (iblk m c 1 t)
    | ⟨2, _⟩ => win0_2.fill (grid0.coords t) (fun _ => (0 : BitVec 8)) (iblk m c 2 t)
    | ⟨3, _⟩ => win0_3.fill (grid0.coords t) (fun _ => (0 : BitVec 8)) (iblk m c 3 t)
    | ⟨4, _⟩ => win0_4.fill (grid0.coords t) (fun _ => (0 : BitVec 16)) (iblk m c 4 t)
    | ⟨5, _⟩ => win0_5.fill (grid0.coords t) (fun _ => (0 : EReal)) ((win0_5.blk t).view.read (Elt Ideal) (HY m c))
    | ⟨6, _⟩ => win0_6.fill (grid0.coords t) (fun _ => (0 : EReal)) ((win0_6.blk t).view.read (Elt Ideal) (HC m c))
    | ⟨7, _⟩ => win0_7.fill (grid0.coords t) (fun _ => (0 : EReal)) ((win0_7.blk t).view.read (Elt Ideal) (HS m c))
    | ⟨_ + 8, h⟩ => absurd h (Nat.not_lt.2 (Nat.le_add_left _ _))
  Φ _ := Pipeline.ΦA spec0 c
  q _ := fullShare
  owed _ := 0

theorem dats_A (c : Dev nD) (w : Fin cfg0.W) : (dats m 0 c).A w = V m c (Pipeline.arrRef spec0 w) := by
  dsimp only [dats]

theorem before_0 (c : Dev nD) (t : Fin cfg0.N) (d) : (dats m 0 c).before 0 t d = b0 (V m c main_v6) t :=
  before0_0_of m (dats m 0 c) (dats_A m c 0) (fun _ => rfl) t d
theorem before_1 (c : Dev nD) (t : Fin cfg0.N) (d) : (dats m 0 c).before 1 t d = b1 (V m c main_v1) t d := by
  unfold Dat.before; rw [if_pos (fetch0_1 t)]; rfl
theorem before_2 (c : Dev nD) (t : Fin cfg0.N) (d) : (dats m 0 c).before 2 t d = b2 (V m c main_v3) t d := by
  unfold Dat.before; rw [if_pos (fetch0_2 t)]; rfl
theorem before_3 (c : Dev nD) (t : Fin cfg0.N) (d) : (dats m 0 c).before 3 t d = b3 (V m c main_v4) t d := by
  unfold Dat.before; rw [if_pos (fetch0_3 t)]; rfl
theorem before_4 (c : Dev nD) (t : Fin cfg0.N) (d) : (dats m 0 c).before 4 t d = b4 (V m c main_v5) t d := by
  unfold Dat.before; rw [if_pos (fetch0_4 t)]; rfl

/-- The block the body leaves for result `Y` at a point. -/
def outY (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) : S256x1024.Idx → EReal :=
  View.canon (lY v (b0 (V m c main_v6) t) (b1 (V m c main_v1) t d1) (b2 (V m c main_v3) t d2) (b3 (V m c main_v4) t d3) (b4 (V m c main_v5) t d4))
/-- The block the body leaves for result `C` at a point. -/
def outC (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) : S256x1024.Idx → EReal :=
  View.canon (lC v (b0 (V m c main_v6) t) (b1 (V m c main_v1) t d1) (b2 (V m c main_v3) t d2) (b3 (V m c main_v4) t d3) (b4 (V m c main_v5) t d4))
/-- The block the body leaves for result `S` at a point. -/
def outS (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) : S8x1x256.Idx → EReal :=
  View.canon (lS v (b0 (V m c main_v6) t) (b1 (V m c main_v1) t d1) (b2 (V m c main_v3) t d2) (b3 (V m c main_v4) t d3) (b4 (V m c main_v5) t d4))
theorem after_1 (c : Dev nD) (t : Fin cfg0.N) (d) :
    win0_1.fill (grid0.coords t) d (win0_1.cut (grid0.coords t) ((dats m 0 c).after 1 t)) = b1 (V m c main_v1) t d :=
  congrArg (win0_1.fill (grid0.coords t) d) (win0_1.cut_fill (grid0.coords t) (fun _ => (0 : BitVec 8)) (iblk m c 1 t))
theorem after_2 (c : Dev nD) (t : Fin cfg0.N) (d) :
    win0_2.fill (grid0.coords t) d (win0_2.cut (grid0.coords t) ((dats m 0 c).after 2 t)) = b2 (V m c main_v3) t d :=
  congrArg (win0_2.fill (grid0.coords t) d) (win0_2.cut_fill (grid0.coords t) (fun _ => (0 : BitVec 8)) (iblk m c 2 t))
theorem after_3 (c : Dev nD) (t : Fin cfg0.N) (d) :
    win0_3.fill (grid0.coords t) d (win0_3.cut (grid0.coords t) ((dats m 0 c).after 3 t)) = b3 (V m c main_v4) t d :=
  congrArg (win0_3.fill (grid0.coords t) d) (win0_3.cut_fill (grid0.coords t) (fun _ => (0 : BitVec 8)) (iblk m c 3 t))
theorem after_4 (c : Dev nD) (t : Fin cfg0.N) (d) :
    win0_4.fill (grid0.coords t) d (win0_4.cut (grid0.coords t) ((dats m 0 c).after 4 t)) = b4 (V m c main_v5) t d :=
  congrArg (win0_4.fill (grid0.coords t) d) (win0_4.cut_fill (grid0.coords t) (fun _ => (0 : BitVec 16)) (iblk m c 4 t))
/-- What the body leaves of result 1, as the window's array asks for it. -/
theorem after_5 (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) :
    win0_5.fill (grid0.coords t) (outY m c t d1 d2 d3 d4 v) (win0_5.cut (grid0.coords t) ((dats m 0 c).after 5 t)) = outY m c t d1 d2 d3 d4 v :=
  (congrArg (win0_5.fill (grid0.coords t) _) ((win0_5.cut_fill (grid0.coords t) (fun _ => (0 : EReal)) ((win0_5.blk t).view.read (Elt Ideal) (HY m c))).trans
    (cutY (V m c main_v6) (V m c main_v1) (V m c main_v3) (V m c main_v4) (V m c main_v5) t d1 d2 d3 d4 v).symm)).trans
    (win0_5.fill_cut (grid0.coords t) _)
/-- What the body leaves of result 2, as the window's array asks for it. -/
theorem after_6 (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) :
    win0_6.fill (grid0.coords t) (outC m c t d1 d2 d3 d4 v) (win0_6.cut (grid0.coords t) ((dats m 0 c).after 6 t)) = outC m c t d1 d2 d3 d4 v :=
  (congrArg (win0_6.fill (grid0.coords t) _) ((win0_6.cut_fill (grid0.coords t) (fun _ => (0 : EReal)) ((win0_6.blk t).view.read (Elt Ideal) (HC m c))).trans
    (cutC (V m c main_v6) (V m c main_v1) (V m c main_v3) (V m c main_v4) (V m c main_v5) t d1 d2 d3 d4 v).symm)).trans
    (win0_6.fill_cut (grid0.coords t) _)
/-- What the body leaves of result 3, as the window's array asks for it. -/
theorem after_7 (c : Dev nD) (t : Fin cfg0.N) (d1 : Vec Ideal S768x1024 .i8) (d2 : Vec Ideal S384x1024 .i8) (d3 : Vec Ideal S6x16x1024 .i8) (d4 : Vec Ideal S6x1024 .i16) (v : View sig .tc .vmem S96x2x1024 .bf16) :
    win0_7.fill (grid0.coords t) (outS m c t d1 d2 d3 d4 v) (win0_7.cut (grid0.coords t) ((dats m 0 c).after 7 t)) = outS m c t d1 d2 d3 d4 v :=
  (congrArg (win0_7.fill (grid0.coords t) _) ((win0_7.cut_fill (grid0.coords t) (fun _ => (0 : EReal)) ((win0_7.blk t).view.read (Elt Ideal) (HS m c))).trans
    (cutS (V m c main_v6) (V m c main_v1) (V m c main_v3) (V m c main_v4) (V m c main_v5) t d1 d2 d3 d4 v).symm)).trans
    (win0_7.fill_cut (grid0.coords t) _)
theorem give {c : Dev nD} {S : Shape} {e : EltTy} {mr : Memref sig .tc .vmem S e} {Y Z : S.Idx → Elt Ideal e} (h : Z = Y) :
    (owns (c : Thread nD τ) mr fullShare Y : sProp 𝕄) ⊢ owns (c : Thread nD τ) mr fullShare Z := by rw [h]

set_option maxHeartbeats 1600000 in
theorem exact_obligation (c : Dev nD) : BodyObligationLoose (dats m 0 c) (defs₀ (F := Ideal)) Variants.none () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold bodyAt0
  unfold Pipeline.ΦA
  rw [scopedRest0_eq]
  iintro ⟨⟨⟨%f, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4]
  iapply (sound_exact c Set.univ _ _ _ _ _ _ _ _ _ _ _ _ _ _ _ _ _ (Memref.whole cc0_scratch0) (Memref.isWhole_whole _)
    (b0 (V m c main_v6) t) (b1 (V m c main_v1) t d1) (b2 (V m c main_v3) t d2) (b3 (V m c main_v4) t d3) (b4 (V m c main_v5) t d4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Hs]
  · iapply (scratch_in c f); iexact Hs
  iintro ⟨H0, H1, H2, H3, H4, H5, H6, H7, Hs⟩
  isplitl [Hs Hp]
  · isplitl [Hs]
    · iapply (scratch_out c); iexact Hs
    · iexact Hp
  isplitl [Ho]; · iexact Ho
  isplitl [H0]; · iexact H0
  isplitl [H1]
  · iexists d1; iapply (give (after_1 m c t d1)); iexact H1
  isplitl [H2]
  · iexists d2; iapply (give (after_2 m c t d2)); iexact H2
  isplitl [H3]
  · iexists d3; iapply (give (after_3 m c t d3)); iexact H3
  isplitl [H4]
  · iexists d4; iapply (give (after_4 m c t d4)); iexact H4
  isplitl [H5]
  · iexists (outY m c t d1 d2 d3 d4 (Memref.whole cc0_scratch0).view); iapply (give (after_5 m c t d1 d2 d3 d4 _)); unfold outY; iexact H5
  isplitl [H6]
  · iexists (outC m c t d1 d2 d3 d4 (Memref.whole cc0_scratch0).view); iapply (give (after_6 m c t d1 d2 d3 d4 _)); unfold outC; iexact H6
  · iexists (outS m c t d1 d2 d3 d4 (Memref.whole cc0_scratch0).view); iapply (give (after_7 m c t d1 d2 d3 d4 _)); unfold outS; iexact H7

set_option backward.isDefEq.respectTransparency.types false in
set_option maxHeartbeats 800000 in
theorem run_exact : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := exact_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem final_5 (c : Dev nD) : (dats m 0 c).arrAt 5 cfg0.N = HY m c := by
  refine (dats m 0 c).arrAt_eq_of_cover 5 (HY m c) (fun t _ => win0_5.cut_fill _ _ _) fun i => ?_
  have h0 : (i 0).val < 256 := i 0 |>.isLt
  have h1 : (i 1).val < 151936 := i 1 |>.isLt
  let t : Fin cfg0.N := ⟨(i 1).val / 1024, by rw [show cfg0.N = 149 from N_0]; omega⟩
  refine ⟨t, flush0_5 t, ?_⟩
  show i ∈ ((View.whole main_v7_0).slice (win0_5.rect t)).set
  rw [View.set_slice_whole, Rect.mem_set_unit]
  intro a
  match a with
  | ⟨0, _⟩ => show 0 * 256 ≤ (i 0).val ∧ (i 0).val < 0 * 256 + 256; omega
  | ⟨1, _⟩ =>
    show (BitVec.ofNat 32 (grid0.coords t 0).val).toNat * 1024 ≤ (i 1).val ∧ (i 1).val < (BitVec.ofNat 32 (grid0.coords t 0).val).toNat * 1024
      + (Pipeline.Clip.of (BitVec.ofNat 32 (grid0.coords t 0).val).toNat 1024 151936).extent 1024
    have ht : t.val = (i 1).val / 1024 := rfl
    rw [toNat_coord, extent_of _ _ _ (by omega)]
    omega

theorem final_6 (c : Dev nD) : (dats m 0 c).arrAt 6 cfg0.N = HC m c := by
  refine (dats m 0 c).arrAt_eq_of_cover 6 (HC m c) (fun t _ => win0_6.cut_fill _ _ _) fun i => ?_
  have h0 : (i 0).val < 256 := i 0 |>.isLt
  have h1 : (i 1).val < 151936 := i 1 |>.isLt
  let t : Fin cfg0.N := ⟨(i 1).val / 1024, by rw [show cfg0.N = 149 from N_0]; omega⟩
  refine ⟨t, flush0_6 t, ?_⟩
  show i ∈ ((View.whole main_v7_1).slice (win0_6.rect t)).set
  rw [View.set_slice_whole, Rect.mem_set_unit]
  intro a
  match a with
  | ⟨0, _⟩ => show 0 * 256 ≤ (i 0).val ∧ (i 0).val < 0 * 256 + 256; omega
  | ⟨1, _⟩ =>
    show (BitVec.ofNat 32 (grid0.coords t 0).val).toNat * 1024 ≤ (i 1).val ∧ (i 1).val < (BitVec.ofNat 32 (grid0.coords t 0).val).toNat * 1024
      + (Pipeline.Clip.of (BitVec.ofNat 32 (grid0.coords t 0).val).toNat 1024 151936).extent 1024
    have ht : t.val = (i 1).val / 1024 := rfl
    rw [toNat_coord, extent_of _ _ _ (by omega)]
    omega

theorem final_7 (c : Dev nD) : (dats m 0 c).arrAt 7 cfg0.N = HS m c := by
  refine (dats m 0 c).arrAt_eq_of_cover 7 (HS m c) (fun t _ => win0_7.cut_fill _ _ _) fun i => ?_
  have h0 : (i 0).val < 1187 := i 0 |>.isLt
  have h1 : (i 1).val < 1 := i 1 |>.isLt
  have h2 : (i 2).val < 256 := i 2 |>.isLt
  let t : Fin cfg0.N := ⟨(i 0).val / 8, by rw [show cfg0.N = 149 from N_0]; omega⟩
  refine ⟨t, flush0_7 t, ?_⟩
  show i ∈ ((View.whole main_v7_2).slice (win0_7.rect t)).set
  rw [View.set_slice_whole, Rect.mem_set_unit]
  intro a
  match a with
  | ⟨0, _⟩ =>
    show (BitVec.ofNat 32 (grid0.coords t 0).val).toNat * 8 ≤ (i 0).val ∧ (i 0).val < (BitVec.ofNat 32 (grid0.coords t 0).val).toNat * 8
      + (Pipeline.Clip.of (BitVec.ofNat 32 (grid0.coords t 0).val).toNat 8 1187).extent 8
    have ht : t.val = (i 0).val / 8 := rfl
    rw [toNat_coord, extent_of _ _ _ (by omega)]
    omega
  | ⟨1, _⟩ => show 0 * 1 ≤ (i 1).val ∧ (i 1).val < 0 * 1 + 1; omega
  | ⟨2, _⟩ => show 0 * 256 ≤ (i 2).val ∧ (i 2).val < 0 * 256 + 256; omega

/-- The scales as the host leaves them: transposed, after the region. -/
theorem tail_8 (c : Dev nD) : Pipeline.afterTail₀ cfgs (dats m) 0 (V0 m) [hostOps1] c main_v8 = HT m c := by
  have h : Pipeline.withArrays (cfgs 0).spec c (V0 m c) (fun w => (dats m 0 c).arrAt w (cfgs 0).N) (Proc.devRef .tc main_v7_2) = HS m c :=
    (Pipeline.withArrays_arr spec0 launch0.win.arr_inj c (V0 m c) _ 7).trans (final_7 m c)
  unfold Pipeline.afterTail₀
  revert h
  generalize Pipeline.withArrays (cfgs 0).spec c (V0 m c) (fun w => (dats m 0 c).arrAt w (cfgs 0).N) = W
  intro h
  after_reads_simp
  exact congrArg (fun s => transpose S1x256x1187 [1, 2, 0] s transposes_S1187x1x256_S1x256x1187_1_2_0) h

/-- What the kernel leaves: the three results, the arguments as launched. -/
theorem run_values : θ_run defs (onTc (τ := τ) (main (F := Ideal))) ⟨m, fun _ => 0, ρ⟩ (fun r => ∀ c : Dev nD,
      r.2.mem ((c.tc : Thread nD τ).loc main_v7_0) = HY m c
      ∧ r.2.mem ((c.tc : Thread nD τ).loc main_v7_1) = HC m c
      ∧ r.2.mem ((c.tc : Thread nD τ).loc main_v8) = HT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).1 5).trans (final_5 m c), ((h.1 c).1 6).trans (final_6 m c), ((h.1 c).2 main_v8 (Pipeline.mem_restRefs_of main_v8 (by decide) (by decide))).trans (tail_8 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩)
    (run_exact m ρ)

end Cert.KernelIdeal.Hand
-- ==== Proof.KHost.lean ====
module

public import proofs.«01_k».proof.Proof.Gen.KernelIdeal.Frame
public import Idealize.ShloMosaic.Lib.StableHlo.RunRead
public import Idealize.ShloMosaic.Lib.Pointwise
public import Idealize.ShloMosaic.Lib.Pipeline.ValueKit.Point

@[expose] public section

noncomputable section

/-! What the host hands to the kernel, entry by entry: the arguments with the vocabulary axis last. -/

namespace Cert.KernelIdeal.Hand

open Idealize.ShloMosaic
open Cert.KernelIdeal.Gen

variable (m : (ℓ : Loc nD τ sig) → Buf (Elt Ideal) ℓ) (c : Dev nD)

theorem host_x (r : Fin 256) (k : Fin 1536) :
    (V m c main_v6 : S256x1536.Idx → EReal) (ix2 r k) = (m ((c.tc : Thread nD τ).loc main_arg0) : S1x256x1536.Idx → EReal) (ix3 0 r k) := by
  after_reads_simp
  pointwise

theorem host_ql (i : Fin 768) (J : Fin 151936) :
    (V m c main_v1 : S768x151936.Idx → BitVec 8) (ix2 i J)
      = (m ((c.tc : Thread nD τ).loc main_arg1) : S151936x6x2x64.Idx → BitVec 8) (ix4 J ⟨i.val / 128, by omega⟩ ⟨i.val / 64 % 2, by omega⟩ ⟨i.val % 64, by omega⟩) := by
  after_reads_simp
  pointwise

theorem host_qh (i : Fin 384) (J : Fin 151936) :
    (V m c main_v3 : S384x151936.Idx → BitVec 8) (ix2 i J)
      = (m ((c.tc : Thread nD τ).loc main_arg2) : S151936x6x2x32.Idx → BitVec 8) (ix4 J ⟨i.val / 64, by omega⟩ ⟨i.val / 32 % 2, by omega⟩ ⟨i.val % 32, by omega⟩) := by
  after_reads_simp
  pointwise

theorem host_sc (n : Fin 6) (s : Fin 16) (J : Fin 151936) :
    (V m c main_v4 : S6x16x151936.Idx → BitVec 8) (ix3 n s J) = (m ((c.tc : Thread nD τ).loc main_arg3) : S151936x6x16.Idx → BitVec 8) (ix3 J n s) := by
  after_reads_simp
  pointwise

theorem host_d (n : Fin 6) (J : Fin 151936) :
    (V m c main_v5 : S6x151936.Idx → BitVec 16) (ix2 n J) = (m ((c.tc : Thread nD τ).loc main_arg4) : S151936x6.Idx → BitVec 16) (ix2 J n) := by
  after_reads_simp
  pointwise

end Cert.KernelIdeal.Hand
-- ==== Proof.RVocab.lean ====
module

public import proofs.«01_k».proof.Proof.Gen.ReferenceIdeal.Value
public import Idealize.ShloMosaic.Lib.StableHlo.RunRead
public import proofs.«01_k».proof.Proof.Gen.On_in_range
public import Idealize.ShloMosaic.Lib.Pointwise
public import Idealize.ShloMosaic.Lib.Pipeline.ValueKit.Point

@[expose] public section

set_option maxRecDepth 100000

noncomputable section

namespace Cert.ReferenceIdeal.Hand

open Idealize.ShloMosaic Idealize.ShloMosaic.TcCoe Idealize.ShloMosaic.StableHlo
open Cert.ReferenceIdeal Cert.ReferenceIdeal.Gen

/-! ## The lines of the reference -/

/-- The six-bit numbers of the weights, 32 taken off. -/
def qV (arg1 : IVec S151936x6x2x64 8) (arg2 : IVec S151936x6x2x32 8) : FVec Ideal S151936x6x16x16 .bf16 :=
  let v0 : IVec S151936x6x2x64 32 := (extui 32 · natLt_8_32) arg1
  let v1 : IVec S151936x6x2x1x2x32 32 := shapeCast S151936x6x2x1x2x32 v0 shapeCasts_S151936x6x2x64_S151936x6x2x1x2x32
  let v2 : IVec S2 32 := iotaInDim S2 32 0
  let c : IVec S_ 32 := constantI S_ 32 4#32
  let v3 : IVec S2 32 := broadcastInDim S2 ![] bcast_S_S2 c
  let v4 : IVec S2 32 := muli v3 v2
  let v5 : IVec S1x1x1x2x1x1 32 := shapeCast S1x1x1x2x1x1 v4 shapeCasts_S2_S1x1x1x2x1x1
  let v6 : IVec S151936x6x2x2x2x32 32 := broadcastInDim S151936x6x2x2x2x32 ![0, 1, 2, 3, 4, 5] bcast_S151936x6x2x1x2x32_S151936x6x2x2x2x32_0_1_2_3_4_5 v1
  let v7 : IVec S151936x6x2x2x2x32 32 := broadcastInDim S151936x6x2x2x2x32 ![0, 1, 2, 3, 4, 5] bcast_S1x1x1x2x1x1_S151936x6x2x2x2x32_0_1_2_3_4_5 v5
  let v8 : IVec S151936x6x2x2x2x32 32 := Host.shrsi v6 v7
  let v9 : IVec S151936x6x2x32 32 := (extui 32 · natLt_8_32) arg2
  let v10 : IVec S151936x6x2x1x32 32 := shapeCast S151936x6x2x1x32 v9 shapeCasts_S151936x6x2x32_S151936x6x2x1x32
  let v11 : IVec S4 32 := iotaInDim S4 32 0
  let c_0 : IVec S_ 32 := constantI S_ 32 2#32
  let v12 : IVec S4 32 := broadcastInDim S4 ![] bcast_S_S4 c_0
  let v13 : IVec S4 32 := muli v12 v11
  let v14 : IVec S1x1x1x4x1 32 := shapeCast S1x1x1x4x1 v13 shapeCasts_S4_S1x1x1x4x1
  let v15 : IVec S151936x6x2x4x32 32 := broadcastInDim S151936x6x2x4x32 ![0, 1, 2, 3, 4] bcast_S151936x6x2x1x32_S151936x6x2x4x32_0_1_2_3_4 v10
  let v16 : IVec S151936x6x2x4x32 32 := broadcastInDim S151936x6x2x4x32 ![0, 1, 2, 3, 4] bcast_S1x1x1x4x1_S151936x6x2x4x32_0_1_2_3_4 v14
  let v17 : IVec S151936x6x2x4x32 32 := Host.shrsi v15 v16
  let c_1 : IVec S_ 32 := constantI S_ 32 15#32
  let v18 : IVec S151936x6x2x2x2x32 32 := broadcastInDim S151936x6x2x2x2x32 ![] bcast_S_S151936x6x2x2x2x32 c_1
  let v19 : IVec S151936x6x2x2x2x32 32 := andi v8 v18
  let v20 : IVec S151936x6x2x4x32 32 := shapeCast S151936x6x2x4x32 v19 shapeCasts_S151936x6x2x2x2x32_S151936x6x2x4x32
  let c_2 : IVec S_ 32 := constantI S_ 32 3#32
  let v21 : IVec S151936x6x2x4x32 32 := broadcastInDim S151936x6x2x4x32 ![] bcast_S_S151936x6x2x4x32 c_2
  let v22 : IVec S151936x6x2x4x32 32 := andi v17 v21
  let c_3 : IVec S_ 32 := constantI S_ 32 4#32
  let v23 : IVec S151936x6x2x4x32 32 := broadcastInDim S151936x6x2x4x32 ![] bcast_S_S151936x6x2x4x32 c_3
  let v24 : IVec S151936x6x2x4x32 32 := Host.shli v22 v23
  let v25 : IVec S151936x6x2x4x32 32 := ori v20 v24
  let c_4 : IVec S_ 32 := constantI S_ 32 32#32
  let v26 : IVec S151936x6x2x4x32 32 := broadcastInDim S151936x6x2x4x32 ![] bcast_S_S151936x6x2x4x32 c_4
  let v27 : IVec S151936x6x2x4x32 32 := subi v25 v26
  let v28 : FVec Ideal S151936x6x2x4x32 .bf16 := sitofp .bf16 v27
  let v29 : FVec Ideal S151936x6x16x16 .bf16 := shapeCast S151936x6x16x16 v28 shapeCasts_S151936x6x2x4x32_S151936x6x16x16
  v29
/-- The block scales. -/
def hV (arg4 : IVec S151936x6 16) : FVec Ideal S151936x6 .f32 :=
  let v30 : IVec S151936x6 32 := (extsi 32 · natLt_16_32) arg4
  let c_5 : IVec S_ 32 := constantI S_ 32 65535#32
  let v31 : IVec S151936x6 32 := broadcastInDim S151936x6 ![] bcast_S_S151936x6 c_5
  let v32 : IVec S151936x6 32 := andi v30 v31
  let c_6 : IVec S_ 32 := constantI S_ 32 15#32
  let v33 : IVec S151936x6 32 := broadcastInDim S151936x6 ![] bcast_S_S151936x6 c_6
  let v34 : IVec S151936x6 32 := Host.shrsi v32 v33
  let c_7 : IVec S_ 32 := constantI S_ 32 10#32
  let v35 : IVec S151936x6 32 := broadcastInDim S151936x6 ![] bcast_S_S151936x6 c_7
  let v36 : IVec S151936x6 32 := Host.shrsi v32 v35
  let c_8 : IVec S_ 32 := constantI S_ 32 31#32
  let v37 : IVec S151936x6 32 := broadcastInDim S151936x6 ![] bcast_S_S151936x6 c_8
  let v38 : IVec S151936x6 32 := andi v36 v37
  let c_9 : IVec S_ 32 := constantI S_ 32 1023#32
  let v39 : IVec S151936x6 32 := broadcastInDim S151936x6 ![] bcast_S_S151936x6 c_9
  let v40 : IVec S151936x6 32 := andi v32 v39
  let v41 : FVec Ideal S151936x6 .f32 := sitofp .f32 v40
  let cst : FVec Ideal S_ .f32 := constant (F := Ideal) S_ .f32 0x40000000#32
  let cst_10 : FVec Ideal S_ .f32 := constant (F := Ideal) S_ .f32 0xC1C00000#32
  let v42 : FVec Ideal S_ .f32 := Host.powf cst cst_10
  let v43 : FVec Ideal S151936x6 .f32 := broadcastInDim S151936x6 ![] bcast_S_S151936x6 v42
  let v44 : FVec Ideal S151936x6 .f32 := mulf v41 v43
  let c_11 : IVec S_ 32 := constantI S_ 32 1024#32
  let v45 : IVec S151936x6 32 := broadcastInDim S151936x6 ![] bcast_S_S151936x6 c_11
  let v46 : IVec S151936x6 32 := addi v40 v45
  let v47 : FVec Ideal S151936x6 .f32 := sitofp .f32 v46
  let c_12 : IVec S_ 32 := constantI S_ 32 25#32
  let v48 : IVec S151936x6 32 := broadcastInDim S151936x6 ![] bcast_S_S151936x6 c_12
  let v49 : IVec S151936x6 32 := subi v38 v48
  let v50 : FVec Ideal S151936x6 .f32 := sitofp .f32 v49
  let cst_13 : FVec Ideal S_ .f32 := constant (F := Ideal) S_ .f32 0x40000000#32
  let v51 : FVec Ideal S151936x6 .f32 := broadcastInDim S151936x6 ![] bcast_S_S151936x6 cst_13
  let v52 : FVec Ideal S151936x6 .f32 := Host.powf v51 v50
  let v53 : FVec Ideal S151936x6 .f32 := mulf v47 v52
  let c_14 : IVec S_ 32 := constantI S_ 32 0#32
  let v54 : IVec S151936x6 32 := broadcastInDim S151936x6 ![] bcast_S_S151936x6 c_14
  let v55 : IVec S151936x6 1 := cmpi .eq v38 v54
  let v56 : FVec Ideal S151936x6 .f32 := select v55 v44 v53
  let c_15 : IVec S_ 32 := constantI S_ 32 31#32
  let v57 : IVec S151936x6 32 := broadcastInDim S151936x6 ![] bcast_S_S151936x6 c_15
  let v58 : IVec S151936x6 1 := cmpi .eq v38 v57
  let cst_16 : FVec Ideal S_ .f32 := constant (F := Ideal) S_ .f32 0x7F800000#32
  let v59 : FVec Ideal S151936x6 .f32 := select v58 (broadcastInDim S151936x6 ![] bcast_S_S151936x6 (id cst_16)) v56
  let c_17 : IVec S_ 32 := constantI S_ 32 1#32
  let v60 : IVec S151936x6 32 := broadcastInDim S151936x6 ![] bcast_S_S151936x6 c_17
  let v61 : IVec S151936x6 1 := cmpi .eq v34 v60
  let v62 : FVec Ideal S151936x6 .f32 := Host.negf v59
  let v63 : FVec Ideal S151936x6 .f32 := select v61 v62 v59
  let c_18 : IVec S_ 32 := constantI S_ 32 31#32
  let v64 : IVec S151936x6 32 := broadcastInDim S151936x6 ![] bcast_S_S151936x6 c_18
  let v65 : IVec S151936x6 1 := cmpi .eq v38 v64
  let c_19 : IVec S_ 32 := constantI S_ 32 0#32
  let v66 : IVec S151936x6 32 := broadcastInDim S151936x6 ![] bcast_S_S151936x6 c_19
  let v67 : IVec S151936x6 1 := cmpi .ne v40 v66
  let v68 : IVec S151936x6 1 := andi v65 v67
  let cst_20 : FVec Ideal S_ .f32 := constant (F := Ideal) S_ .f32 0x7FC00000#32
  let v69 : FVec Ideal S151936x6 .f32 := select v68 (broadcastInDim S151936x6 ![] bcast_S_S151936x6 (id cst_20)) v63
  v69
/-- The weights. -/
def wV (v29 : FVec Ideal S151936x6x16x16 .bf16) (v69 : FVec Ideal S151936x6 .f32) (arg3 : IVec S151936x6x16 8) : FVec Ideal S151936x1536 .bf16 :=
  let v70 : FVec Ideal S151936x6x1 .f32 := broadcastInDim S151936x6x1 ![0, 1] bcast_S151936x6_S151936x6x1_0_1 v69
  let v71 : IVec S151936x6x16 32 := (extsi 32 · natLt_8_32) arg3
  let v72 : FVec Ideal S151936x6x16 .f32 := sitofp .f32 v71
  let v73 : FVec Ideal S151936x6x16 .f32 := broadcastInDim S151936x6x16 ![0, 1, 2] bcast_S151936x6x1_S151936x6x16_0_1_2 v70
  let v74 : FVec Ideal S151936x6x16 .f32 := mulf v73 v72
  let v75 : FVec Ideal S151936x6x16 .bf16 := (truncf .bf16 · bitsLt_bf16_f32) v74
  let v76 : FVec Ideal S151936x6x16x1 .bf16 := broadcastInDim S151936x6x16x1 ![0, 1, 2] bcast_S151936x6x16_S151936x6x16x1_0_1_2 v75
  let v77 : FVec Ideal S151936x6x16x16 .bf16 := broadcastInDim S151936x6x16x16 ![0, 1, 2, 3] bcast_S151936x6x16x1_S151936x6x16x16_0_1_2_3 v76
  let v78 : FVec Ideal S151936x6x16x16 .bf16 := mulf v29 v77
  let v79 : FVec Ideal S151936x1536 .bf16 := shapeCast S151936x1536 v78 shapeCasts_S151936x6x16x16_S151936x1536
  v79
/-- The product. -/
def yV (arg0 : FVec Ideal S1x256x1536 .bf16) (v79 : FVec Ideal S151936x1536 .bf16) : FVec Ideal S256x151936 .bf16 :=
  let v80 : FVec Ideal S256x1536 .bf16 := shapeCast S256x1536 arg0 shapeCasts_S1x256x1536_S256x1536
  let v81 : FVec Ideal S256x151936 .f32 := (fun l r => Host.dotGeneral dot_S256x1536_S151936x1536_S256x151936_1_1_0_0_n_n none l r) v80 v79
  let v82 : FVec Ideal S256x151936 .bf16 := (truncf .bf16 · bitsLt_bf16_f32) v81
  v82
/-- The largest magnitude of each group. -/
def aV (v82 : FVec Ideal S256x151936 .bf16) : FVec Ideal S256x1187 .f32 :=
  let v83 : FVec Ideal S256x151936 .f32 := (extf .f32 · bitsLt_bf16_f32) v82
  let v84 : FVec Ideal S256x1187x128 .f32 := shapeCast S256x1187x128 v83 shapeCasts_S256x151936_S256x1187x128
  let v85 : FVec Ideal S256x1187x128 .f32 := Host.absf v84
  let cst_21 : FVec Ideal S_ .f32 := constant (F := Ideal) S_ .f32 0xFF800000#32
  let v86 : FVec Ideal S256x1187 .f32 := (fun x v => Host.reduce FloatOps.maximumf x v reducesTo_S256x1187x128_S256x1187_d2 h_S_) v85 cst_21
  v86
/-- The scaled maximum of each group. -/
def zV (v86 : FVec Ideal S256x1187 .f32) : FVec Ideal S256x1187 .f32 :=
  let cst_22 : FVec Ideal S_ .f32 := constant (F := Ideal) S_ .f32 0x3B124925#32
  let v87 : FVec Ideal S256x1187 .f32 := broadcastInDim S256x1187 ![] bcast_S_S256x1187 cst_22
  let v88 : FVec Ideal S256x1187 .f32 := mulf v86 v87
  v88
/-- Where the codes are claimed. -/
def mC (v88 : FVec Ideal S256x1187 .f32) : IVec S256x151936 1 :=
  let cst_23 : FVec Ideal S_ .f32 := constant (F := Ideal) S_ .f32 0x7E800000#32
  let v89 : FVec Ideal S256x1187 .f32 := broadcastInDim S256x1187 ![] bcast_S_S256x1187 cst_23
  let v90 : IVec S256x1187 1 := cmpf .olt v88 v89
  let v91 : IVec S256x1187x1 1 := broadcastInDim S256x1187x1 ![0, 1] bcast_S256x1187_S256x1187x1_0_1 v90
  let v92 : IVec S256x1187x128 1 := broadcastInDim S256x1187x128 ![0, 1, 2] bcast_S256x1187x1_S256x1187x128_0_1_2 v91
  let v93 : IVec S256x151936 1 := shapeCast S256x151936 v92 shapeCasts_S256x1187x128_S256x151936
  v93
/-- Where the scales are claimed. -/
def mS (v88 : FVec Ideal S256x1187 .f32) : IVec S1x256x1187 1 :=
  let cst_23 : FVec Ideal S_ .f32 := constant (F := Ideal) S_ .f32 0x7E800000#32
  let v89 : FVec Ideal S256x1187 .f32 := broadcastInDim S256x1187 ![] bcast_S_S256x1187 cst_23
  let v90 : IVec S256x1187 1 := cmpf .olt v88 v89
  broadcastInDim S1x256x1187 ![1, 2] bcast_S256x1187_S1x256x1187_1_2 v90
/-- The exponents of the scales. -/
def eV (v86 v88 : FVec Ideal S256x1187 .f32) : FVec Ideal S256x1187 .f32 :=
  let v89 : FVec Ideal S256x1187 .f32 := broadcastInDim S256x1187 ![] bcast_S_S256x1187 (constant (F := Ideal) S_ .f32 0x00000000#32)
  let v90 : IVec S256x1187 1 := cmpf .oeq v86 v89
  let v93 : IVec S255 32 := addi (broadcastInDim S255 ![] bcast_S_S255 (constantI S_ 32 4294967169#32)) (iotaInDim S255 32 0)
  let v94 : FVec Ideal S255 .f32 := sitofp .f32 v93
  let v95 : FVec Ideal S255 .f32 := broadcastInDim S255 ![] bcast_S_S255 (constant (F := Ideal) S_ .f32 0x40000000#32)
  let v96 : FVec Ideal S255 .f32 := Host.powf v95 v94
  let v97 : FVec Ideal S256x1187x1 .f32 := broadcastInDim S256x1187x1 ![0, 1] bcast_S256x1187_S256x1187x1_0_1 v88
  let v98 : FVec Ideal S1x1x255 .f32 := broadcastInDim S1x1x255 ![2] bcast_S255_S1x1x255_2 v96
  let v99 : FVec Ideal S256x1187x255 .f32 := broadcastInDim S256x1187x255 ![0, 1, 2] bcast_S1x1x255_S256x1187x255_0_1_2 v98
  let v100 : FVec Ideal S256x1187x255 .f32 := broadcastInDim S256x1187x255 ![0, 1, 2] bcast_S256x1187x1_S256x1187x255_0_1_2 v97
  let v101 : IVec S256x1187x255 1 := cmpf .ole v99 v100
  let v102 : FVec Ideal S256x1187x255 .f32 := select v101 (broadcastInDim S256x1187x255 ![2] bcast_S255_S256x1187x255_2 v94)
    (broadcastInDim S256x1187x255 ![] bcast_S_S256x1187x255 (id (constant (F := Ideal) S_ .f32 0xC2FE0000#32)))
  let v103 : FVec Ideal S256x1187 .f32 := Host.reduce FloatOps.maximumf v102 (constant (F := Ideal) S_ .f32 0xFF800000#32) reducesTo_S256x1187x255_S256x1187_d2 h_S_
  let v105 : FVec Ideal S256x1187 .f32 := addf v103 (broadcastInDim S256x1187 ![] bcast_S_S256x1187 (constant (F := Ideal) S_ .f32 0x3F800000#32))
  select v90 (broadcastInDim S256x1187 ![] bcast_S_S256x1187 (sitofp .f32 (constantI S_ 32 0#32) : FVec Ideal S_ .f32)) v105
/-- Two to the power of each. -/
def pV (e : FVec Ideal S256x1187 .f32) : FVec Ideal S256x1187 .f32 :=
  Host.powf (broadcastInDim S256x1187 ![] bcast_S_S256x1187 (constant (F := Ideal) S_ .f32 0x40000000#32) : FVec Ideal S256x1187 .f32) e
/-- The scales. -/
def sV (v106 : FVec Ideal S256x1187 .f32) : FVec Ideal S1x256x1187 .f32 :=
  broadcastInDim S1x256x1187 ![1, 2] bcast_S256x1187_S1x256x1187_1_2 (pV v106)
/-- The numbers that become the codes. -/
def cV (v82 : FVec Ideal S256x151936 .bf16) (v106 : FVec Ideal S256x1187 .f32) : FVec Ideal S256x151936 .f32 :=
  let v111 : FVec Ideal S256x1187 .f32 := pV (Host.negf v106)
  let v112 : FVec Ideal S256x151936 .f32 := (extf .f32 · bitsLt_bf16_f32) v82
  let v113 : FVec Ideal S256x1187x128 .f32 := shapeCast S256x1187x128 v112 shapeCasts_S256x151936_S256x1187x128
  let v114 : FVec Ideal S256x1187x1 .f32 := broadcastInDim S256x1187x1 ![0, 1] bcast_S256x1187_S256x1187x1_0_1 v111
  let v115 : FVec Ideal S256x1187x128 .f32 := broadcastInDim S256x1187x128 ![0, 1, 2] bcast_S256x1187x1_S256x1187x128_0_1_2 v114
  let v116 : FVec Ideal S256x1187x128 .f32 := mulf v113 v115
  let v117 : FVec Ideal S256x1187x128 .f32 := minimumf (broadcastInDim S256x1187x128 ![] bcast_S_S256x1187x128 (id (constant (F := Ideal) S_ .f32 0x43E00000#32)))
    (maximumf (broadcastInDim S256x1187x128 ![] bcast_S_S256x1187x128 (id (constant (F := Ideal) S_ .f32 0xC3E00000#32))) v116)
  shapeCast S256x151936 v117 shapeCasts_S256x1187x128_S256x151936

variable (m : (ℓ : Loc nD τ sig) → Buf (Elt Ideal) ℓ) (c : Dev nD)

/-- The reference's product, from its arguments. -/
def Yr : FVec Ideal S256x151936 .bf16 :=
  yV (m (c, main_arg0)) (wV (qV (m (c, main_arg1)) (m (c, main_arg2))) (hV (m (c, main_arg4))) (m (c, main_arg3)))
/-- Its exponents. -/
def Er (y : FVec Ideal S256x151936 .bf16) : FVec Ideal S256x1187 .f32 := eV (aV y) (zV (aV y))

theorem read_y : V m c main_v82 = Yr m c := by
  after_reads_simp
  rfl

theorem mask_eq (a0 a1 a2 a3 a4) : Cert.On_in_range.fn (F := Ideal) a0 a1 a2 a3 a4
    = (fun _ => 1#1, mC (zV (aV (yV a0 (wV (qV a1 a2) (hV a4) a3)))), mS (zV (aV (yV a0 (wV (qV a1 a2) (hV a4) a3))))) := by
  rfl

end Cert.ReferenceIdeal.Hand
-- ==== Proof.RRead.lean ====
module

public import proofs.«01_k».proof.Proof.RVocab
public import Idealize.ShloMosaic.Lib.StableHlo.RunRead
public import proofs.«01_k».proof.Proof.Gen.On_in_range
public import Idealize.ShloMosaic.Lib.Pointwise
public import Idealize.ShloMosaic.Lib.Pipeline.ValueKit.Point

@[expose] public section

set_option maxRecDepth 100000

noncomputable section

namespace Cert.ReferenceIdeal.Hand

open Idealize.ShloMosaic Idealize.ShloMosaic.TcCoe Idealize.ShloMosaic.StableHlo
open Cert.ReferenceIdeal Cert.ReferenceIdeal.Gen

/-! ## The results, from the product -/

variable (m : (ℓ : Loc nD τ sig) → Buf (Elt Ideal) ℓ) (c : Dev nD)

theorem read_s : V m c main_v119 = sV (Er (Yr m c)) := by
  suffices h : ∀ y, V m c main_v82 = y → V m c main_v119 = sV (Er y) from h _ (read_y m c)
  intro y
  after_reads_simp
  intro h
  simp only [h]
  clear h
  simp -implicitDefEqProofs only [StableHlo.TRef.toBuf, StableHlo.TRef.ofBuf, cast_cast, cast_eq]
  rfl

theorem read_c : V m c main_v118 = cV (Yr m c) (Er (Yr m c)) := by
  suffices h : ∀ y, V m c main_v82 = y → V m c main_v118 = cV y (Er y) from h _ (read_y m c)
  intro y
  after_reads_simp
  intro h
  simp only [h]
  clear h
  simp -implicitDefEqProofs only [StableHlo.TRef.toBuf, StableHlo.TRef.ofBuf, cast_cast, cast_eq]
  rfl

theorem read_in (A : S256x151936.Idx → EReal) (t : Fin cfg0.N) (i : S256x151936.Idx) :
    ((win0_0.blk t).view.read (Elt Ideal) A : S256x151936.Idx → EReal) i = A i := by
  refine congrArg A ?_
  funext a; apply Fin.ext
  match a with
  | ⟨0, _⟩ => show 0 * 256 + 1 * (i 0).val = (i 0).val; omega
  | ⟨1, _⟩ => show 0 * 151936 + 1 * (i 1).val = (i 1).val; omega

theorem read_out (A : S256x151936.Idx → EReal) (t : Fin cfg0.N) (i : S256x151936.Idx) :
    ((win0_1.blk t).view.read (Elt Ideal) A : S256x151936.Idx → EReal) i = A i := by
  refine congrArg A ?_
  funext a; apply Fin.ext
  match a with
  | ⟨0, _⟩ => show 0 * 256 + 1 * (i 0).val = (i 0).val; omega
  | ⟨1, _⟩ => show 0 * 151936 + 1 * (i 1).val = (i 1).val; omega

theorem cut_out (A : S256x151936.Idx → EReal) (t : Fin cfg0.N) (i : S256x151936.Idx) :
    (win0_1.cut (grid0.coords t) A : S256x151936.Idx → EReal) i = A i := by
  refine congrArg A ?_
  funext a; apply Fin.ext
  match a with
  | ⟨0, _⟩ => rfl
  | ⟨1, _⟩ => rfl

/-- The body leaves what it finds. -/
theorem body_id (A : S256x151936.Idx → EReal) (i : S256x151936.Idx) : (out0_1 (F := Ideal) A : S256x151936.Idx → EReal) i = A i := by
  unfold out0_1
  rw [Value.canon1_eq]
  refine congrArg A ?_
  funext a; apply Fin.ext
  match a with
  | ⟨0, _⟩ => show 0 + 1 * (i 0).val = (i 0).val; omega
  | ⟨1, _⟩ => show 0 + 1 * (i 1).val = (i 1).val; omega

/-- The launch's output is the array it is given. -/
theorem codes_final : ((dats m 0 c).arrAt 1 cfg0.N : S256x151936.Idx → EReal) = cV (Yr m c) (Er (Yr m c)) := by
  rw [← read_c m c]
  have h := Value.blocks1 m c ⟨0, by decide⟩ (by decide)
  rw [Value.flushed1] at h
  funext i
  exact (read_out _ ⟨0, by decide⟩ i).symm.trans ((congrFun h i).trans ((cut_out _ ⟨0, by decide⟩ i).trans
    ((body_id _ i).trans (read_in (V m c main_v118) ⟨0, by decide⟩ i))))

/-- What a run of the reference leaves. -/
theorem ref_values (ρ : Dev nD → PrngReg) :
    θ_run defs (onTc (τ := τ) (main (F := Ideal))) ⟨m, fun _ => 0, ρ⟩ (fun r => ∀ c : Dev nD,
      r.2.mem ((c.tc : Thread nD τ).loc main_v82) = Yr m c
      ∧ r.2.mem ((c.tc : Thread nD τ).loc main_v120) = cV (Yr m c) (Er (Yr m c))
      ∧ r.2.mem ((c.tc : Thread nD τ).loc main_v119) = sV (Er (Yr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h c).2 main_v82 (Pipeline.mem_restRefs_of main_v82 (by decide) (by decide))).trans (read_y m c),
      (Value.post1 m r h c).trans (codes_final m c),
      ((h c).2 main_v119 (Pipeline.mem_restRefs_of main_v119 (by decide) (by decide))).trans (read_s m c),
      Value.kept_main_arg0 m r h c, Value.kept_main_arg1 m r h c, Value.kept_main_arg2 m r h c,
      Value.kept_main_arg3 m r h c, Value.kept_main_arg4 m r h c⟩)
    (run_main m ρ)

end Cert.ReferenceIdeal.Hand
-- ==== Proof.RPt.lean ====
module

public import proofs.«01_k».proof.Proof.RVocab
public import Idealize.ShloMosaic.Lib.StableHlo.RunRead
public import proofs.«01_k».proof.Proof.Gen.On_in_range
public import Idealize.ShloMosaic.Lib.Pointwise
public import Idealize.ShloMosaic.Lib.Pipeline.ValueKit.Point

@[expose] public section

set_option maxRecDepth 100000

noncomputable section

namespace Cert.ReferenceIdeal.Hand

open Idealize.ShloMosaic Idealize.ShloMosaic.TcCoe Idealize.ShloMosaic.StableHlo
open Cert.ReferenceIdeal Cert.ReferenceIdeal.Gen

/-! ## The reference's vocabulary read at an index -/

/-- A value of six bits less 32: four bits of `a` and two of `b`, those the part `f` of a half-block takes. -/
def qR (f : ℕ) (a b : BitVec 8) : BitVec 32 :=
  IntOp.subi
    (IntOp.ori (IntOp.andi (IntOp.shrsi ArithUnit.host (BitVec.setWidth 32 a) (IntOp.muli (4#32) (BitVec.ofNat 32 (f / 2)))) 15#32)
      (IntOp.shli ArithUnit.host
        (IntOp.andi (IntOp.shrsi ArithUnit.host (BitVec.setWidth 32 b) (IntOp.muli (2#32) (BitVec.ofNat 32 f))) 3#32)
        4#32))
    32#32

/-- The absolute value of the number that the bits of a float16 stand for; `⊤` where the exponent is all ones. -/
def absR (u : BitVec 32) : EReal :=
  Scalar.select (IntOp.cmpi CmpIPredicate.eq (IntOp.andi (IntOp.shrsi ArithUnit.host u 10#32) 31#32) 31#32)
    (Ideal.ofBits .f32 2139095040#32)
    (Scalar.select (IntOp.cmpi CmpIPredicate.eq (IntOp.andi (IntOp.shrsi ArithUnit.host u 10#32) 31#32) 0#32)
      ((FloatOps.sitofp FTy.f32 (IntOp.andi u 1023#32) : Ideal .f32) * Ideal.pow (Ideal.ofBits FTy.f32 1073741824#32) (Ideal.ofBits FTy.f32 3250585600#32))
      ((FloatOps.sitofp FTy.f32 (IntOp.addi (IntOp.andi u 1023#32) 1024#32) : Ideal .f32) *
        Ideal.pow (Ideal.ofBits FTy.f32 1073741824#32)
          (FloatOps.sitofp FTy.f32 (IntOp.subi (IntOp.andi (IntOp.shrsi ArithUnit.host u 10#32) 31#32) 25#32) : Ideal .f32)))

/-- The number that the bits of a float16 stand for. -/
def halfR (u : BitVec 32) : EReal :=
  Scalar.select
      (IntOp.andi (IntOp.cmpi CmpIPredicate.eq (IntOp.andi (IntOp.shrsi ArithUnit.host u 10#32) 31#32) 31#32)
        (IntOp.cmpi CmpIPredicate.ne (IntOp.andi u 1023#32) 0#32))
      (Ideal.ofBits .f32 2143289344#32)
      (Scalar.select (IntOp.cmpi CmpIPredicate.eq (IntOp.shrsi ArithUnit.host u 15#32) 1#32) (-absR u) (absR u))

theorem qV_apply (a1 : IVec S151936x6x2x64 8) (a2 : IVec S151936x6x2x32 8) (i : S151936x6x16x16.Idx) :
    qV a1 a2 i = (FloatOps.sitofp FTy.bf16 (qR ((i 2).val / 2 % 4)
      (a1 (ix4 (i 0) (i 1) ⟨(i 2).val / 8, by have := (i 2).isLt; change (i 2).val < 16 at this; omega⟩
        ⟨(i 2).val / 2 % 4 % 2 * 32 + ((i 2).val % 2 * 16 + (i 3).val), by have := (i 3).isLt; change (i 3).val < 16 at this; omega⟩))
      (a2 (ix4 (i 0) (i 1) ⟨(i 2).val / 8, by have := (i 2).isLt; change (i 2).val < 16 at this; omega⟩
        ⟨(i 2).val % 2 * 16 + (i 3).val, by have := (i 3).isLt; change (i 3).val < 16 at this; omega⟩))) : Ideal .bf16) := by
  pointwise [qV, qR]

theorem hV_apply (a4 : IVec S151936x6 16) (J : Fin 151936) (b : Fin 6) :
    hV a4 (ix2 J b) = halfR (IntOp.andi (BitVec.signExtend 32 (a4 (ix2 J b))) 65535#32) := by
  pointwise [hV, halfR, absR]
  try rfl

theorem wV_apply (v29 : FVec Ideal S151936x6x16x16 .bf16) (v69 : FVec Ideal S151936x6 .f32) (a3 : IVec S151936x6x16 8) (J : Fin 151936) (k : Fin 1536) :
    wV v29 v69 a3 (ix2 J k) = v29 (ix4 J ⟨k.val / 256, by omega⟩ ⟨k.val / 16 % 16, by omega⟩ ⟨k.val % 16, by omega⟩)
      * (v69 (ix2 J ⟨k.val / 256, by omega⟩)
        * (FloatOps.sitofp FTy.f32 (BitVec.signExtend 32 (a3 (ix3 J ⟨k.val / 256, by omega⟩ ⟨k.val / 16 % 16, by omega⟩))) : Ideal .f32)) := by
  pointwise [wV]

theorem yV_apply (x : FVec Ideal S1x256x1536 .bf16) (w : FVec Ideal S151936x1536 .bf16) (r : Fin 256) (J : Fin 151936) :
    yV x w (ix2 r J) = ∑ k : Fin 1536, x (ix3 0 r k) * w (ix2 J k) := by
  pointwise [yV]

theorem aV_apply (y : FVec Ideal S256x151936 .bf16) (r : Fin 256) (g : Fin 1187) :
    aV y (ix2 r g) = Finset.fold max (Ideal.ofBits FTy.f32 4286578688#32)
      (fun q : Fin 128 => FloatOps.absf (F := Ideal) (φ := .f32) (y (ix2 r ⟨g.val * 128 + q.val, by omega⟩))) Finset.univ := by
  unfold aV
  pointwise []
  try rfl

theorem zV_apply (a : FVec Ideal S256x1187 .f32) (r : Fin 256) (g : Fin 1187) :
    zV a (ix2 r g) = a (ix2 r g) * Ideal.ofBits .f32 0x3B124925#32 := by
  pointwise [zV]

theorem sV_apply (e : FVec Ideal S256x1187 .f32) (r : Fin 256) (g : Fin 1187) :
    sV e (ix3 0 r g) = Ideal.pow (Ideal.ofBits FTy.f32 1073741824#32) (e (ix2 r g)) := by
  pointwise [sV, pV]

theorem mS_apply (z : FVec Ideal S256x1187 .f32) (r : Fin 256) (g : Fin 1187) :
    mS z (ix3 0 r g) = BitVec.ofBool (decide (z (ix2 r g) < Ideal.ofBits FTy.f32 2122317824#32)) := by
  pointwise [mS]

theorem mC_apply (z : FVec Ideal S256x1187 .f32) (r : Fin 256) (J : Fin 151936) :
    mC z (ix2 r J) = BitVec.ofBool (decide (z (ix2 r ⟨J.val / 128, by omega⟩) < Ideal.ofBits FTy.f32 2122317824#32)) := by
  pointwise [mC]

theorem cV_apply (y : FVec Ideal S256x151936 .bf16) (e : FVec Ideal S256x1187 .f32) (r : Fin 256) (J : Fin 151936) :
    cV y e (ix2 r J) = min (Ideal.ofBits .f32 1138753536#32) (max (Ideal.ofBits .f32 3286237184#32)
        (y (ix2 r J) * Ideal.pow (Ideal.ofBits FTy.f32 1073741824#32) (-e (ix2 r ⟨J.val / 128, by omega⟩)))) := by
  pointwise [cV, pV]
  try rfl

end Cert.ReferenceIdeal.Hand
-- ==== Proof.PByte.lean ====
module

public import proofs.«01_k».proof.Proof.KByte
public import proofs.«01_k».proof.Proof.RPt

@[expose] public section

noncomputable section

/-! The kernel's byte of a weight is four times the reference's value. -/

namespace Cert.KernelIdeal.Hand

open Idealize.ShloMosaic
open Cert.ReferenceIdeal.Hand

/-- The four bits of `a` that part `f` takes, above two zero bits. -/
theorem low_bits : ∀ f : Fin 4, ∀ n : Fin 256, ∃ x : Fin 16,
    (![(BitVec.ofFin n : BitVec 8) <<< 2 &&& 0x3C#8, (BitVec.ofFin n : BitVec 8) <<< 2 &&& 0x3C#8, (BitVec.ofFin n : BitVec 8) >>> 2 &&& 0x3C#8,
      (BitVec.ofFin n : BitVec 8) >>> 2 &&& 0x3C#8] f = BitVec.ofNat 8 (4 * x.val))
    ∧ IntOp.andi (IntOp.shrsi ArithUnit.host (BitVec.setWidth 32 (BitVec.ofFin n : BitVec 8)) (IntOp.muli (4#32) (BitVec.ofNat 32 (f.val / 2)))) 15#32 = BitVec.ofNat 32 x.val := by
  decide +kernel

/-- The two bits of `b` that part `f` takes. -/
theorem high_bits : ∀ f : Fin 4, ∀ n : Fin 256, ∃ x : Fin 4,
    (![((BitVec.ofFin n : BitVec 8) ^^^ 0xAA#8) <<< 6 &&& 0xC0#8, ((BitVec.ofFin n : BitVec 8) ^^^ 0xAA#8) <<< 4 &&& 0xC0#8, ((BitVec.ofFin n : BitVec 8) ^^^ 0xAA#8) <<< 2 &&& 0xC0#8,
      ((BitVec.ofFin n : BitVec 8) ^^^ 0xAA#8) &&& 0xC0#8] f = BitVec.ofNat 8 (64 * ((x.val + 2) % 4)))
    ∧ IntOp.shli ArithUnit.host (IntOp.andi (IntOp.shrsi ArithUnit.host (BitVec.setWidth 32 (BitVec.ofFin n : BitVec 8)) (IntOp.muli (2#32) (BitVec.ofNat 32 f.val))) 3#32) 4#32
      = BitVec.ofNat 32 (16 * x.val) := by
  decide +kernel

theorem join_bits : ∀ x : Fin 16, ∀ y : Fin 4, (BitVec.ofNat 8 (4 * x.val) ||| BitVec.ofNat 8 (64 * ((y.val + 2) % 4))).toInt
    = 4 * (IntOp.subi (IntOp.ori (BitVec.ofNat 32 x.val) (BitVec.ofNat 32 (16 * y.val))) 32#32).toInt := by
  decide +kernel

theorem byte_eq (f : Fin 4) (a b : BitVec 8) : (byteK f a b).toInt = 4 * (qR f.val a b).toInt := by
  obtain ⟨x, ha, ha'⟩ := low_bits f a.toFin
  obtain ⟨y, hb, hb'⟩ := high_bits f b.toFin
  have e : byteK f a b = BitVec.ofNat 8 (4 * x.val) ||| BitVec.ofNat 8 (64 * ((y.val + 2) % 4)) := by
    rw [← ha, ← hb]
    fin_cases f <;> rfl
  have e' : qR f.val a b = IntOp.subi (IntOp.ori (BitVec.ofNat 32 x.val) (BitVec.ofNat 32 (16 * y.val))) 32#32 := by
    rw [← ha', ← hb']
    rfl
  rw [e, e', join_bits]

end Cert.KernelIdeal.Hand
-- ==== Proof.PBits.lean ====
module

public import Idealize.ShloMosaic.Lib.Pointwise
public import Idealize.ShloMosaic.Lib.Pipeline.ValueKit.Point

@[expose] public section

noncomputable section

/-! Float32 patterns as extended reals, and the exponent of a number found by halving an interval of patterns. -/

namespace Cert.KernelIdeal.Hand

open Idealize.ShloMosaic

theorem top_pos (e f : ℕ) (he' : e < 256) (hf : f < 8388608) : (BitVec.ofNat 32 (e * 8388608 + f)).extractLsb' 31 1 = 0#1 := by
  apply BitVec.eq_of_toNat_eq
  rw [BitVec.extractLsb'_toNat, BitVec.toNat_ofNat, Nat.shiftRight_eq_div_pow, Nat.mod_eq_of_lt (by omega : e * 8388608 + f < 2 ^ 32)]
  have : (e * 8388608 + f) / 2 ^ 31 = 0 := by omega
  rw [this]; rfl

theorem mid_pos (e f : ℕ) (he' : e < 256) (hf : f < 8388608) : ((BitVec.ofNat 32 (e * 8388608 + f)).extractLsb' 23 8).toNat = e := by
  rw [BitVec.extractLsb'_toNat, BitVec.toNat_ofNat, Nat.shiftRight_eq_div_pow, Nat.mod_eq_of_lt (by omega : e * 8388608 + f < 2 ^ 32)]
  omega

theorem low_pos (e f : ℕ) (he' : e < 256) (hf : f < 8388608) : ((BitVec.ofNat 32 (e * 8388608 + f)).extractLsb' 0 23).toNat = f := by
  rw [BitVec.extractLsb'_toNat, BitVec.toNat_ofNat, Nat.shiftRight_eq_div_pow, Nat.mod_eq_of_lt (by omega : e * 8388608 + f < 2 ^ 32)]
  omega

theorem top_neg (e f : ℕ) (he' : e < 256) (hf : f < 8388608) : (BitVec.ofNat 32 (2147483648 + e * 8388608 + f)).extractLsb' 31 1 = 1#1 := by
  apply BitVec.eq_of_toNat_eq
  rw [BitVec.extractLsb'_toNat, BitVec.toNat_ofNat, Nat.shiftRight_eq_div_pow, Nat.mod_eq_of_lt (by omega : 2147483648 + e * 8388608 + f < 2 ^ 32)]
  have : (2147483648 + e * 8388608 + f) / 2 ^ 31 = 1 := by omega
  rw [this]; rfl

theorem mid_neg (e f : ℕ) (he' : e < 256) (hf : f < 8388608) : ((BitVec.ofNat 32 (2147483648 + e * 8388608 + f)).extractLsb' 23 8).toNat = e := by
  rw [BitVec.extractLsb'_toNat, BitVec.toNat_ofNat, Nat.shiftRight_eq_div_pow, Nat.mod_eq_of_lt (by omega : 2147483648 + e * 8388608 + f < 2 ^ 32)]
  omega

theorem low_neg (e f : ℕ) (he' : e < 256) (hf : f < 8388608) : ((BitVec.ofNat 32 (2147483648 + e * 8388608 + f)).extractLsb' 0 23).toNat = f := by
  rw [BitVec.extractLsb'_toNat, BitVec.toNat_ofNat, Nat.shiftRight_eq_div_pow, Nat.mod_eq_of_lt (by omega : 2147483648 + e * 8388608 + f < 2 ^ 32)]
  omega

/-- The number of a normal pattern. -/
theorem ofBits_of (b : BitVec 32) (s : Bool) (e f : ℕ) (h1 : (b.extractLsb' 31 1 == 1#1) = s) (h2 : (b.extractLsb' 23 8).toNat = e)
    (h3 : (b.extractLsb' 0 23).toNat = f) (he : 0 < e) (he' : e < 255) :
    Ideal.ofBits .f32 b = (((if s then -1 else 1) * (8388608 + f : ℕ) * (2 : ℝ) ^ ((e : ℤ) - 150) : ℝ) : EReal) := by
  show Ideal.ieee 8 23 b = _
  unfold Ideal.ieee
  have h4 : ((e : ℤ) - (2 ^ (8 - 1) - 1) - (23 : ℕ)) = (e : ℤ) - 150 := by norm_num; ring
  have h5 : (2 ^ 23 + f : ℕ) = 8388608 + f := by norm_num
  have h6 : (2 ^ 8 - 1 : ℕ) = 255 := by norm_num
  simp only [Nat.reduceAdd, h1, h2, h3, h5, h6]
  rw [if_neg (by omega), if_neg (by omega), h4]

/-- A pattern whose exponent bits are all ones. -/
theorem ofBits_ones (b : BitVec 32) (s : Bool) (f : ℕ) (h1 : (b.extractLsb' 31 1 == 1#1) = s) (h2 : (b.extractLsb' 23 8).toNat = 255)
    (h3 : (b.extractLsb' 0 23).toNat = f) :
    Ideal.ofBits .f32 b = if f = 0 then (if s then ⊥ else ⊤) else ⊥ := by
  show Ideal.ieee 8 23 b = _
  unfold Ideal.ieee
  have h6 : (2 ^ 8 - 1 : ℕ) = 255 := by norm_num
  simp only [Nat.reduceAdd, h1, h2, h3, h6]
  rw [if_pos trivial]

theorem ofBits_pos (e f : ℕ) (he : 0 < e) (he' : e < 255) (hf : f < 8388608) :
    Ideal.ofBits .f32 (BitVec.ofNat 32 (e * 8388608 + f)) = (((8388608 + f : ℕ) * (2 : ℝ) ^ ((e : ℤ) - 150) : ℝ) : EReal) := by
  rw [ofBits_of _ false e f (by rw [top_pos e f (by omega) hf]; rfl) (mid_pos e f (by omega) hf) (low_pos e f (by omega) hf) he he',
    if_neg (by decide), one_mul]

theorem ofBits_neg (e f : ℕ) (he : 0 < e) (he' : e < 255) (hf : f < 8388608) :
    Ideal.ofBits .f32 (BitVec.ofNat 32 (2147483648 + e * 8388608 + f)) = ((-((8388608 + f : ℕ) * (2 : ℝ) ^ ((e : ℤ) - 150)) : ℝ) : EReal) := by
  rw [ofBits_of _ true e f (by rw [top_neg e f (by omega) hf]; rfl) (mid_neg e f (by omega) hf) (low_neg e f (by omega) hf) he he',
    if_pos rfl, neg_one_mul, neg_mul]

theorem ofBits_ones_pos (f : ℕ) (hf : f < 8388608) :
    Ideal.ofBits .f32 (BitVec.ofNat 32 (255 * 8388608 + f)) = if f = 0 then ⊤ else ⊥ := by
  rw [ofBits_ones _ false f (by rw [top_pos 255 f (by omega) hf]; rfl) (mid_pos 255 f (by omega) hf) (low_pos 255 f (by omega) hf),
    if_neg (by decide : ¬ (false = true))]

theorem ofBits_ones_neg (f : ℕ) (hf : f < 8388608) :
    Ideal.ofBits .f32 (BitVec.ofNat 32 (2147483648 + 255 * 8388608 + f)) = ⊥ := by
  rw [ofBits_ones _ true f (by rw [top_neg 255 f (by omega) hf]; rfl) (mid_neg 255 f (by omega) hf) (low_neg 255 f (by omega) hf),
    if_pos rfl, ite_self]

/-- A power of two from its exponent bits. -/
theorem ofBits_two (e : ℕ) (he : 0 < e) (he' : e < 255) :
    Ideal.ofBits .f32 (BitVec.ofNat 32 (e * 8388608)) = (((2 : ℝ) ^ ((e : ℤ) - 127) : ℝ) : EReal) := by
  have h := ofBits_pos e 0 he he' (by norm_num)
  rw [Nat.add_zero] at h
  rw [h]
  congr 1
  have : (e : ℤ) - 127 = 23 + ((e : ℤ) - 150) := by ring
  rw [this, zpow_add₀ (by norm_num)]
  norm_num

theorem pow_two (n : ℤ) : Ideal.pow (((2 : ℝ) : ℝ) : EReal) (((n : ℝ) : ℝ) : EReal) = (((2 : ℝ) ^ n : ℝ) : EReal) := by
  show ((Real.rpow 2 (n : ℝ) : ℝ) : EReal) = _
  congr 1
  exact Real.rpow_intCast 2 n

theorem lit_two : Ideal.ofBits .f32 1073741824#32 = ((2 : ℝ) : EReal) := by
  have h := ofBits_two 128 (by norm_num) (by norm_num)
  rw [show BitVec.ofNat 32 (128 * 8388608) = 1073741824#32 from rfl] at h
  rw [h]; norm_num

theorem lit_top : Ideal.ofBits .f32 2139095040#32 = (⊤ : EReal) := by
  simp [Ideal.ofBits, Ideal.ieee]

theorem lit_bot : Ideal.ofBits .f32 4286578688#32 = (⊥ : EReal) := by
  simp [Ideal.ofBits, Ideal.ieee]

theorem lit_bot16 : Ideal.ofBits .bf16 65408#16 = (⊥ : EReal) := by
  simp [Ideal.ofBits, Ideal.ieee]

theorem lit_nan : Ideal.ofBits .f32 2143289344#32 = (⊥ : EReal) := by
  simp [Ideal.ofBits, Ideal.ieee]

end Cert.KernelIdeal.Hand
-- ==== Proof.PHalf.lean ====
module

public import proofs.«01_k».proof.Proof.KVal
public import proofs.«01_k».proof.Proof.RPt
public import proofs.«01_k».proof.Proof.PBits

@[expose] public section

noncomputable section

/-! The bits of a float16 stand for the same number in the kernel and in the reference. -/

namespace Cert.KernelIdeal.Hand

open Idealize.ShloMosaic
open Cert.ReferenceIdeal.Hand

theorem and_pow (x n : ℕ) : x &&& 2 ^ n = if x / 2 ^ n % 2 = 1 then 2 ^ n else 0 := by
  have h : x.testBit n = decide (x / 2 ^ n % 2 = 1) := Nat.testBit_eq_decide_div_mod_eq
  apply Nat.eq_of_testBit_eq
  intro j
  rw [Nat.testBit_and, Nat.testBit_two_pow]
  by_cases hj : n = j
  · subst hj
    rw [h]
    by_cases h' : x / 2 ^ n % 2 = 1
    · rw [if_pos h', Nat.testBit_two_pow]; simp [h']
    · rw [if_neg h']; simp [h']
  · split
    · rw [Nat.testBit_two_pow]; simp [hj]
    · simp [hj]

theorem and_mod (x : BitVec 32) (n : ℕ) (hn : n < 32) : x &&& BitVec.ofNat 32 (2 ^ n - 1) = BitVec.ofNat 32 (x.toNat % 2 ^ n) := by
  apply BitVec.eq_of_toNat_eq
  have h1 : 2 ^ n - 1 < 2 ^ 32 := by
    have : 2 ^ n ≤ 2 ^ 31 := Nat.pow_le_pow_right (by norm_num) (by omega)
    omega
  have h2 : x.toNat % 2 ^ n < 2 ^ 32 := lt_of_le_of_lt (Nat.mod_le _ _) x.isLt
  rw [BitVec.toNat_and, BitVec.toNat_ofNat, BitVec.toNat_ofNat, Nat.mod_eq_of_lt h1, Nat.mod_eq_of_lt h2, Nat.and_two_pow_sub_one_eq_mod]

/-- The sign, exponent and fraction of a float16, and the parts of its bits that the two programs take. -/
theorem parts (b : BitVec 16) : ∃ s e f : ℕ, s < 2 ∧ e < 32 ∧ f < 1024
    ∧ BitVec.signExtend 32 b &&& 32767#32 = BitVec.ofNat 32 (e * 1024 + f)
    ∧ BitVec.signExtend 32 b &&& 32768#32 = BitVec.ofNat 32 (s * 32768)
    ∧ BitVec.signExtend 32 b &&& 65535#32 = BitVec.ofNat 32 (s * 32768 + e * 1024 + f) := by
  have hb := b.isLt
  have hw : (BitVec.signExtend 32 b).toNat % 65536 = b.toNat := by
    rw [BitVec.toNat_signExtend, BitVec.toNat_setWidth]
    split <;> omega
  generalize BitVec.signExtend 32 b = w at hw ⊢
  refine ⟨b.toNat / 32768, b.toNat / 1024 % 32, b.toNat % 1024, by omega, by omega, by omega, ?_, ?_, ?_⟩
  · have h := and_mod w 15 (by norm_num)
    norm_num at h
    rw [h]
    congr 1
    omega
  · apply BitVec.eq_of_toNat_eq
    have h := and_pow w.toNat 15
    rw [BitVec.toNat_and, BitVec.toNat_ofNat, BitVec.toNat_ofNat, Nat.mod_eq_of_lt (by norm_num : 32768 < 2 ^ 32), Nat.mod_eq_of_lt (by omega : b.toNat / 32768 * 32768 < 2 ^ 32)]
    rw [show (2 : ℕ) ^ 15 = 32768 from by norm_num] at h
    rw [h]
    by_cases h1 : w.toNat / 32768 % 2 = 1
    · rw [if_pos h1]; omega
    · rw [if_neg h1]; omega
  · have h := and_mod w 16 (by norm_num)
    norm_num at h
    rw [h, hw]
    congr 1
    omega

theorem shr_nat (n k : ℕ) (hn : n < 65536) (hk : k < 32) : IntOp.shrsi ArithUnit.host (BitVec.ofNat 32 n) (BitVec.ofNat 32 k) = BitVec.ofNat 32 (n / 2 ^ k) := by
  have hk' : (BitVec.ofNat 32 k).toNat = k := by rw [BitVec.toNat_ofNat]; exact Nat.mod_eq_of_lt (by omega)
  unfold IntOp.shrsi
  rw [if_pos (by rw [hk']; exact hk), BitVec.sshiftRight', hk', BitVec.sshiftRight_eq_of_msb_false]
  · apply BitVec.eq_of_toNat_eq
    have : n / 2 ^ k ≤ n := Nat.div_le_self _ _
    rw [BitVec.toNat_ushiftRight, BitVec.toNat_ofNat, BitVec.toNat_ofNat, Nat.shiftRight_eq_div_pow, Nat.mod_eq_of_lt (by omega : n < 2 ^ 32), Nat.mod_eq_of_lt (by omega : n / 2 ^ k < 2 ^ 32)]
  · rw [BitVec.msb_eq_decide, decide_eq_false]
    rw [BitVec.toNat_ofNat]
    omega

theorem and_nat (x n : ℕ) (hx : x < 65536) (hn : n < 32) : IntOp.andi (BitVec.ofNat 32 x) (BitVec.ofNat 32 (2 ^ n - 1)) = BitVec.ofNat 32 (x % 2 ^ n) := by
  show BitVec.ofNat 32 x &&& _ = _
  rw [and_mod _ n hn, BitVec.toNat_ofNat, Nat.mod_eq_of_lt (by omega : x < 2 ^ 32)]

theorem toInt_nat (n : ℕ) (hn : n < 65536) : (BitVec.ofNat 32 n).toInt = n := by
  rw [BitVec.toInt_eq_toNat_of_lt, BitVec.toNat_ofNat, Nat.mod_eq_of_lt (by omega)]
  rw [BitVec.toNat_ofNat]; omega

theorem shl_mag (n : ℕ) (hn : n < 32768) : IntOp.shli ArithUnit.vector (BitVec.ofNat 32 n) 13#32 = BitVec.ofNat 32 (n * 8192) := by
  show BitVec.ofNat 32 n <<< 13 = _
  apply BitVec.eq_of_toNat_eq
  rw [BitVec.toNat_shiftLeft, BitVec.toNat_ofNat, BitVec.toNat_ofNat, Nat.shiftLeft_eq, Nat.mod_eq_of_lt (by omega : n < 2 ^ 32)]

theorem or_sign (n : ℕ) (hn : n < 2147483648) : BitVec.ofNat 32 n ||| BitVec.ofNat 32 2147483648 = BitVec.ofNat 32 (2147483648 + n) := by
  apply BitVec.eq_of_toNat_eq
  rw [BitVec.toNat_or, BitVec.toNat_ofNat, BitVec.toNat_ofNat, BitVec.toNat_ofNat, Nat.mod_eq_of_lt (by omega : n < 2 ^ 32), Nat.mod_eq_of_lt (by omega : 2147483648 < 2 ^ 32),
    Nat.mod_eq_of_lt (by omega : 2147483648 + n < 2 ^ 32), Nat.or_comm]
  have := Nat.two_pow_add_eq_or_of_lt (i := 31) (b := n) (by omega) 1
  norm_num at this
  exact this.symm

theorem eq_nat (x y : ℕ) (hx : x < 65536) (hy : y < 65536) : IntOp.cmpi CmpIPredicate.eq (BitVec.ofNat 32 x) (BitVec.ofNat 32 y) = if x = y then 1#1 else 0#1 := by
  have : (BitVec.ofNat 32 x == BitVec.ofNat 32 y) = decide (x = y) := by
    rw [Bool.eq_iff_iff, beq_iff_eq, decide_eq_true_iff]
    constructor
    · intro h
      have := congrArg BitVec.toNat h
      rwa [BitVec.toNat_ofNat, BitVec.toNat_ofNat, Nat.mod_eq_of_lt (by omega), Nat.mod_eq_of_lt (by omega)] at this
    · rintro rfl; rfl
  show BitVec.ofBool _ = _
  rw [this]
  by_cases h : x = y <;> simp [h]

theorem ne_nat (x y : ℕ) (hx : x < 65536) (hy : y < 65536) : IntOp.cmpi CmpIPredicate.ne (BitVec.ofNat 32 x) (BitVec.ofNat 32 y) = if x = y then 0#1 else 1#1 := by
  have h := eq_nat x y hx hy
  have e : IntOp.cmpi CmpIPredicate.ne (BitVec.ofNat 32 x) (BitVec.ofNat 32 y) = ~~~ IntOp.cmpi CmpIPredicate.eq (BitVec.ofNat 32 x) (BitVec.ofNat 32 y) := by
    show BitVec.ofBool (!(BitVec.ofNat 32 x == BitVec.ofNat 32 y)) = ~~~ BitVec.ofBool (BitVec.ofNat 32 x == BitVec.ofNat 32 y)
    generalize (BitVec.ofNat 32 x == BitVec.ofNat 32 y) = v
    revert v
    decide
  rw [e, h]
  split <;> rfl

theorem slt_nat (x y : ℕ) (hx : x < 65536) (hy : y < 65536) : IntOp.cmpi CmpIPredicate.slt (BitVec.ofNat 32 x) (BitVec.ofNat 32 y) = if x < y then 1#1 else 0#1 := by
  show BitVec.ofBool (BitVec.slt _ _) = _
  rw [BitVec.slt, toInt_nat x hx, toInt_nat y hy]
  by_cases h : x < y <;> simp [h]

theorem sge_nat (x y : ℕ) (hx : x < 65536) (hy : y < 65536) : IntOp.cmpi CmpIPredicate.sge (BitVec.ofNat 32 x) (BitVec.ofNat 32 y) = if y ≤ x then 1#1 else 0#1 := by
  show BitVec.ofBool (BitVec.sle _ _) = _
  rw [BitVec.sle, toInt_nat x hx, toInt_nat y hy]
  by_cases h : y ≤ x <;> simp [h]

theorem sel_one {α : Type} (a b : α) : Scalar.select 1#1 a b = a := rfl
theorem sel_zero {α : Type} (a b : α) : Scalar.select 0#1 a b = b := rfl

/-- What the kernel makes of the magnitude bits and the sign bit, before it takes a quarter. -/
def dMag (M S : BitVec 32) : EReal :=
  Scalar.select (IntOp.cmpi CmpIPredicate.slt M 1024#32)
      (Scalar.select
        (IntOp.cmpi CmpIPredicate.ne (IntOp.shli ArithUnit.vector S 16#32) 0#32)
        (0 - (FloatOps.sitofp FTy.f32 (IntOp.andi M 1023#32) : Ideal .f32) * Ideal.ofBits FTy.f32 864026624#32)
        ((FloatOps.sitofp FTy.f32 (IntOp.andi M 1023#32) : Ideal .f32) * Ideal.ofBits FTy.f32 864026624#32))
      (Scalar.select (IntOp.cmpi CmpIPredicate.sge M 31744#32)
        (Ideal.ofBits FTy.f32
          (IntOp.ori (IntOp.addi (IntOp.shli ArithUnit.vector M 13#32) 1879048192#32)
            (IntOp.shli ArithUnit.vector S 16#32)))
        (Ideal.ofBits FTy.f32
          (IntOp.ori (IntOp.addi (IntOp.shli ArithUnit.vector M 13#32) 939524096#32)
            (IntOp.shli ArithUnit.vector S 16#32))))

theorem toFp (n : ℕ) (hn : n < 65536) : (FloatOps.sitofp FTy.f32 (BitVec.ofNat 32 n) : Ideal .f32) = ((n : ℝ) : EReal) := by
  show (((BitVec.ofNat 32 n).toInt : ℝ) : EReal) = _
  rw [toInt_nat n hn]; norm_num

theorem lit_small : Ideal.ofBits .f32 864026624#32 = (((2 : ℝ) ^ (-24 : ℤ) : ℝ) : EReal) := by
  have h := ofBits_two 103 (by norm_num) (by norm_num)
  norm_num at h
  rw [h]; norm_num

theorem lit_m24 : Ideal.ofBits .f32 3250585600#32 = (((-24 : ℤ) : ℝ) : EReal) := by
  have h := ofBits_neg 131 4194304 (by norm_num) (by norm_num) (by norm_num)
  norm_num at h
  rw [h]; norm_num

theorem absR_zero (s f : ℕ) (hs : s < 2) (hf : f < 1024) : absR (BitVec.ofNat 32 (s * 32768 + 0 * 1024 + f)) = ((f * (2 : ℝ) ^ (-24 : ℤ) : ℝ) : EReal) := by
  have h1 : IntOp.shrsi ArithUnit.host (BitVec.ofNat 32 (s * 32768 + 0 * 1024 + f)) 10#32 = BitVec.ofNat 32 (s * 32) :=
    (shr_nat _ 10 (by omega) (by omega)).trans (congrArg _ (by omega))
  have h2 : IntOp.andi (BitVec.ofNat 32 (s * 32)) 31#32 = BitVec.ofNat 32 0 :=
    (and_nat _ 5 (by omega) (by omega)).trans (congrArg _ (by omega))
  have h3 : IntOp.andi (BitVec.ofNat 32 (s * 32768 + 0 * 1024 + f)) 1023#32 = BitVec.ofNat 32 f :=
    (and_nat _ 10 (by omega) (by omega)).trans (congrArg _ (by omega))
  unfold absR
  rw [h1, h2, h3, eq_nat 0 31 (by omega) (by omega), if_neg (by omega), sel_zero, eq_nat 0 0 (by omega) (by omega), if_pos rfl, sel_one,
    toFp f (by omega), lit_two, lit_m24, pow_two, ← EReal.coe_mul]

theorem absR_mid (s e f : ℕ) (hs : s < 2) (he : 0 < e) (he' : e < 31) (hf : f < 1024) :
    absR (BitVec.ofNat 32 (s * 32768 + e * 1024 + f)) = (((1024 + f : ℕ) * (2 : ℝ) ^ ((e : ℤ) - 25) : ℝ) : EReal) := by
  have h1 : IntOp.shrsi ArithUnit.host (BitVec.ofNat 32 (s * 32768 + e * 1024 + f)) 10#32 = BitVec.ofNat 32 (s * 32 + e) :=
    (shr_nat _ 10 (by omega) (by omega)).trans (congrArg _ (by omega))
  have h2 : IntOp.andi (BitVec.ofNat 32 (s * 32 + e)) 31#32 = BitVec.ofNat 32 e :=
    (and_nat _ 5 (by omega) (by omega)).trans (congrArg _ (by omega))
  have h3 : IntOp.andi (BitVec.ofNat 32 (s * 32768 + e * 1024 + f)) 1023#32 = BitVec.ofNat 32 f :=
    (and_nat _ 10 (by omega) (by omega)).trans (congrArg _ (by omega))
  have h4 : IntOp.addi (BitVec.ofNat 32 f) 1024#32 = BitVec.ofNat 32 (1024 + f) := by
    rw [Nat.add_comm]; exact (BitVec.ofNat_add f 1024).symm
  have h5 : (FloatOps.sitofp FTy.f32 (IntOp.subi (BitVec.ofNat 32 e) 25#32) : Ideal .f32) = ((((e : ℤ) - 25 : ℤ) : ℝ) : EReal) := by
    show (((BitVec.ofNat 32 e - BitVec.ofNat 32 25).toInt : ℝ) : EReal) = _
    have : (BitVec.ofNat 32 e - BitVec.ofNat 32 25).toInt = (e : ℤ) - 25 := by interval_cases e <;> rfl
    rw [this]
  unfold absR
  rw [h1, h2, h3, eq_nat e 31 (by omega) (by omega), if_neg (by omega), sel_zero, h4, h5]
  have h6 := eq_nat e 0 (by omega) (by omega)
  rw [if_neg (by omega)] at h6
  rw [h6, sel_zero, toFp _ (by omega), lit_two, pow_two, ← EReal.coe_mul]

theorem absR_top (s f : ℕ) (hs : s < 2) (hf : f < 1024) : absR (BitVec.ofNat 32 (s * 32768 + 31 * 1024 + f)) = ⊤ := by
  have h1 : IntOp.shrsi ArithUnit.host (BitVec.ofNat 32 (s * 32768 + 31 * 1024 + f)) 10#32 = BitVec.ofNat 32 (s * 32 + 31) :=
    (shr_nat _ 10 (by omega) (by omega)).trans (congrArg _ (by omega))
  have h2 : IntOp.andi (BitVec.ofNat 32 (s * 32 + 31)) 31#32 = BitVec.ofNat 32 31 :=
    (and_nat _ 5 (by omega) (by omega)).trans (congrArg _ (by omega))
  unfold absR
  rw [h1, h2, eq_nat 31 31 (by omega) (by omega), if_pos rfl, sel_one, lit_top]

/-- The reference's number by sign, exponent and fraction. -/
theorem halfR_eq (s e f : ℕ) (hs : s < 2) (he : e < 32) (hf : f < 1024) : halfR (BitVec.ofNat 32 (s * 32768 + e * 1024 + f))
    = if e = 31 ∧ f ≠ 0 then ⊥ else if s = 1 then -absR (BitVec.ofNat 32 (s * 32768 + e * 1024 + f)) else absR (BitVec.ofNat 32 (s * 32768 + e * 1024 + f)) := by
  have h1 : IntOp.shrsi ArithUnit.host (BitVec.ofNat 32 (s * 32768 + e * 1024 + f)) 10#32 = BitVec.ofNat 32 (s * 32 + e) :=
    (shr_nat _ 10 (by omega) (by omega)).trans (congrArg _ (by omega))
  have h2 : IntOp.andi (BitVec.ofNat 32 (s * 32 + e)) 31#32 = BitVec.ofNat 32 e :=
    (and_nat _ 5 (by omega) (by omega)).trans (congrArg _ (by omega))
  have h3 : IntOp.andi (BitVec.ofNat 32 (s * 32768 + e * 1024 + f)) 1023#32 = BitVec.ofNat 32 f :=
    (and_nat _ 10 (by omega) (by omega)).trans (congrArg _ (by omega))
  have h4 : IntOp.shrsi ArithUnit.host (BitVec.ofNat 32 (s * 32768 + e * 1024 + f)) 15#32 = BitVec.ofNat 32 s :=
    (shr_nat _ 15 (by omega) (by omega)).trans (congrArg _ (by omega))
  unfold halfR
  rw [h1, h2, h3, h4, eq_nat e 31 (by omega) (by omega), ne_nat f 0 (by omega) (by omega), eq_nat s 1 (by omega) (by omega), lit_nan]
  by_cases a : e = 31 <;> by_cases b : f = 0 <;> by_cases d : s = 1 <;> simp [a, b, d, IntOp.andi, Scalar.select]

theorem dMag_eq (s e f : ℕ) (hs : s < 2) (he : e < 32) (hf : f < 1024) :
    dMag (BitVec.ofNat 32 (e * 1024 + f)) (BitVec.ofNat 32 (s * 32768)) = halfR (BitVec.ofNat 32 (s * 32768 + e * 1024 + f)) := by
  rw [halfR_eq s e f hs he hf]
  have k1 := slt_nat (e * 1024 + f) 1024 (by omega) (by omega)
  have k2 := sge_nat (e * 1024 + f) 31744 (by omega) (by omega)
  have k3 : IntOp.andi (BitVec.ofNat 32 (e * 1024 + f)) 1023#32 = BitVec.ofNat 32 f :=
    (and_nat _ 10 (by omega) (by omega)).trans (congrArg _ (by omega))
  have k4 := shl_mag (e * 1024 + f) (by omega)
  have k5 : IntOp.shli ArithUnit.vector (BitVec.ofNat 32 (s * 32768)) 16#32 = BitVec.ofNat 32 (s * 2147483648) := by
    interval_cases s <;> rfl
  have k6 : IntOp.addi (BitVec.ofNat 32 ((e * 1024 + f) * 8192)) 939524096#32 = BitVec.ofNat 32 ((e + 112) * 8388608 + f * 8192) :=
    (BitVec.ofNat_add _ 939524096).symm.trans (congrArg _ (by omega))
  have k7 : IntOp.addi (BitVec.ofNat 32 ((e * 1024 + f) * 8192)) 1879048192#32 = BitVec.ofNat 32 ((e + 224) * 8388608 + f * 8192) :=
    (BitVec.ofNat_add _ 1879048192).symm.trans (congrArg _ (by omega))
  unfold dMag
  rw [k1, k2, k3, k4, k5, k6, k7]
  rcases (by omega : e = 0 ∨ (0 < e ∧ e < 31) ∨ e = 31) with rfl | ⟨e0, e1⟩ | rfl
  · rw [if_pos (by omega), sel_one, if_neg (by omega), absR_zero s f hs hf, toFp f (by omega), lit_small, ← EReal.coe_mul]
    interval_cases s
    · rfl
    · rw [if_pos rfl, ← EReal.coe_neg, ← EReal.coe_zero, ← EReal.coe_sub, zero_sub]; rfl
  · rw [if_neg (by omega), sel_zero, if_neg (by omega), sel_zero, if_neg (by omega), absR_mid s e f hs e0 e1 hf]
    have v : ((8388608 + f * 8192 : ℕ) : ℝ) * (2 : ℝ) ^ (((e + 112 : ℕ) : ℤ) - 150) = ((1024 + f : ℕ) : ℝ) * (2 : ℝ) ^ ((e : ℤ) - 25) := by
      have : (e : ℤ) - 25 = 13 + (((e + 112 : ℕ) : ℤ) - 150) := by push_cast; ring
      rw [this, zpow_add₀ (by norm_num)]
      push_cast
      ring
    interval_cases s
    · rw [if_neg (by omega), ← v, ← ofBits_pos (e + 112) (f * 8192) (by omega) (by omega) (by omega)]
      show Ideal.ofBits .f32 (_ ||| 0#32) = _
      rw [BitVec.or_zero]
    · rw [if_pos rfl, ← v, ← EReal.coe_neg, ← ofBits_neg (e + 112) (f * 8192) (by omega) (by omega) (by omega)]
      exact congrArg _ ((or_sign _ (by omega)).trans (congrArg _ (by omega)))
  · rw [if_neg (by omega), sel_zero, if_pos (by omega), sel_one, absR_top s f hs hf]
    have w : (31 + 224) * 8388608 + f * 8192 = 255 * 8388608 + f * 8192 := rfl
    interval_cases s
    · have o := ofBits_ones_pos (f * 8192) (by omega)
      show Ideal.ofBits .f32 (_ ||| 0#32) = _
      rw [BitVec.or_zero, w, o]
      by_cases h : f = 0 <;> simp [h]
    · have o := ofBits_ones_neg (f * 8192) (by omega)
      refine (congrArg _ ((or_sign _ (by omega)).trans (congrArg _ (by omega)))).trans (o.trans ?_)
      by_cases h : f = 0 <;> simp [h]

/-- The kernel's number is a quarter of the reference's. -/
theorem half_eq (b : BitVec 16) : dK b = halfR (IntOp.andi (BitVec.signExtend 32 b) 65535#32) * (((1 / 4 : ℝ) : ℝ) : EReal) := by
  have h : dK b = dMag (IntOp.andi (BitVec.signExtend 32 b) 32767#32) (IntOp.andi (BitVec.signExtend 32 b) 32768#32) * Ideal.ofBits FTy.f32 1048576000#32 := rfl
  have q : Ideal.ofBits FTy.f32 1048576000#32 = (((1 / 4 : ℝ) : ℝ) : EReal) := by
    have h := ofBits_two 125 (by norm_num) (by norm_num)
    norm_num at h
    rw [h]
  obtain ⟨s, e, f, hs, he, hf, h1, h2, h3⟩ := parts b
  rw [h, q]
  unfold IntOp.andi
  rw [h1, h2, h3, dMag_eq s e f hs he hf]

end Cert.KernelIdeal.Hand
-- ==== Proof.PWt.lean ====
module

public import proofs.«01_k».proof.Proof.KRun
public import proofs.«01_k».proof.Proof.PByte
public import proofs.«01_k».proof.Proof.PHalf

@[expose] public section

noncomputable section

/-! The kernel's weights, products and group maxima are the reference's. -/

namespace Cert.KernelIdeal.Hand

open Idealize.ShloMosaic
open Cert.ReferenceIdeal Cert.ReferenceIdeal.Hand

/-- A product of a weight's parts, the kernel's factors 4 and 1/4 taken out. -/
theorem parts_mul (q : ℤ) (H S : EReal) :
    (((4 * q : ℤ) : ℝ) : EReal) * (H * (((1 / 4 : ℝ) : ℝ) : EReal) * S) = ((q : ℝ) : EReal) * (H * S) := by
  have h : (((4 * q : ℤ) : ℝ) : EReal) = ((4 : ℝ) : EReal) * ((q : ℝ) : EReal) := by
    rw [← EReal.coe_mul]; push_cast; rfl
  have e : ((4 : ℝ) : EReal) * (((1 / 4 : ℝ) : ℝ) : EReal) = 1 := by
    rw [← EReal.coe_mul]; norm_num
  rw [h, show ((4 : ℝ) : EReal) * ((q : ℝ) : EReal) * (H * (((1 / 4 : ℝ) : ℝ) : EReal) * S)
    = (((4 : ℝ) : EReal) * (((1 / 4 : ℝ) : ℝ) : EReal)) * (((q : ℝ) : EReal) * (H * S)) by ac_rfl, e, one_mul]

theorem scale_bits (s : BitVec 8) : (FloatOps.sitofp FTy.f32 (BitVec.signExtend 32 s) : Ideal .f32) = (FloatOps.sitofp FTy.f32 s : Ideal .f32) := by
  show (((BitVec.signExtend 32 s).toInt : ℝ) : EReal) = ((s.toInt : ℝ) : EReal)
  rw [BitVec.toInt_signExtend_of_le (by decide)]

section
variable (a0 : S1x256x1536.Idx → EReal) (a1 : S151936x6x2x64.Idx → BitVec 8) (a2 : S151936x6x2x32.Idx → BitVec 8)
  (a3 : S151936x6x16.Idx → BitVec 8) (a4 : S151936x6.Idx → BitVec 16)

/-- The reference's product. -/
abbrev Yref : FVec Ideal S256x151936 .bf16 := yV a0 (wV (qV a1 a2) (hV a4) a3)

theorem w_eq (J : Fin 151936) (k : Fin 1536) :
    wK (fun i => a1 (ix4 J ⟨i.val / 128, by omega⟩ ⟨i.val / 64 % 2, by omega⟩ ⟨i.val % 64, by omega⟩))
      (fun i => a2 (ix4 J ⟨i.val / 64, by omega⟩ ⟨i.val / 32 % 2, by omega⟩ ⟨i.val % 32, by omega⟩))
      (fun n s => a3 (ix3 J n s)) (fun n => a4 (ix2 J n)) k
    = wV (qV a1 a2) (hV a4) a3 (ix2 J k) := by
  rw [wV_apply, hV_apply, qV_apply, scale_bits]
  unfold wK
  rw [half_eq]
  have hs : (⟨8 * (k.val / 128 % 2) + k.val % 128 / 16, by omega⟩ : Fin 16) = ⟨k.val / 16 % 16, by omega⟩ := Fin.ext (by show 8 * (k.val / 128 % 2) + k.val % 128 / 16 = k.val / 16 % 16; omega)
  rw [hs]
  have hb := byte_eq ⟨k.val % 128 / 32, by omega⟩
    (a1 (ix4 J ⟨(64 * (k.val / 128) + (32 * (k.val % 128 / 32 % 2) + k.val % 32)) / 128, by omega⟩
      ⟨(64 * (k.val / 128) + (32 * (k.val % 128 / 32 % 2) + k.val % 32)) / 64 % 2, by omega⟩
      ⟨(64 * (k.val / 128) + (32 * (k.val % 128 / 32 % 2) + k.val % 32)) % 64, by omega⟩))
    (a2 (ix4 J ⟨(32 * (k.val / 128) + k.val % 32) / 64, by omega⟩ ⟨(32 * (k.val / 128) + k.val % 32) / 32 % 2, by omega⟩ ⟨(32 * (k.val / 128) + k.val % 32) % 32, by omega⟩))
  refine (congrArg (fun z : ℤ => (((z : ℤ) : ℝ) : EReal) * _) hb).trans ((parts_mul _ _ _).trans ?_)
  refine congrArg (fun z : BitVec 32 => (((z.toInt : ℤ) : ℝ) : EReal) * _) ?_
  have e1 : (⟨(64 * (k.val / 128) + (32 * (k.val % 128 / 32 % 2) + k.val % 32)) / 128, by omega⟩ : Fin 6) = ⟨k.val / 256, by omega⟩ := Fin.ext (by show (64 * (k.val / 128) + (32 * (k.val % 128 / 32 % 2) + k.val % 32)) / 128 = k.val / 256; omega)
  have e2 : (⟨(64 * (k.val / 128) + (32 * (k.val % 128 / 32 % 2) + k.val % 32)) / 64 % 2, by omega⟩ : Fin 2) = ⟨k.val / 16 % 16 / 8, by omega⟩ := Fin.ext (by show (64 * (k.val / 128) + (32 * (k.val % 128 / 32 % 2) + k.val % 32)) / 64 % 2 = k.val / 16 % 16 / 8; omega)
  have e3 : (⟨(64 * (k.val / 128) + (32 * (k.val % 128 / 32 % 2) + k.val % 32)) % 64, by omega⟩ : Fin 64) = ⟨k.val / 16 % 16 / 2 % 4 % 2 * 32 + (k.val / 16 % 16 % 2 * 16 + k.val % 16), by omega⟩ := Fin.ext (by show (64 * (k.val / 128) + (32 * (k.val % 128 / 32 % 2) + k.val % 32)) % 64 = k.val / 16 % 16 / 2 % 4 % 2 * 32 + (k.val / 16 % 16 % 2 * 16 + k.val % 16); omega)
  have e4 : (⟨(32 * (k.val / 128) + k.val % 32) / 64, by omega⟩ : Fin 6) = ⟨k.val / 256, by omega⟩ := Fin.ext (by show (32 * (k.val / 128) + k.val % 32) / 64 = k.val / 256; omega)
  have e5 : (⟨(32 * (k.val / 128) + k.val % 32) / 32 % 2, by omega⟩ : Fin 2) = ⟨k.val / 16 % 16 / 8, by omega⟩ := Fin.ext (by show (32 * (k.val / 128) + k.val % 32) / 32 % 2 = k.val / 16 % 16 / 8; omega)
  have e6 : (⟨(32 * (k.val / 128) + k.val % 32) % 32, by omega⟩ : Fin 32) = ⟨k.val / 16 % 16 % 2 * 16 + k.val % 16, by omega⟩ := Fin.ext (by show (32 * (k.val / 128) + k.val % 32) % 32 = k.val / 16 % 16 % 2 * 16 + k.val % 16; omega)
  have e7 : k.val % 128 / 32 = k.val / 16 % 16 / 2 % 4 := by omega
  rw [e1, e2, e3, e4, e5, e6]
  show qR (k.val % 128 / 32) _ _ = _
  rw [e7]
  rfl

variable (X0 : Cert.KernelIdeal.S256x1536.Idx → EReal) (X1 : Cert.KernelIdeal.S768x151936.Idx → BitVec 8) (X2 : Cert.KernelIdeal.S384x151936.Idx → BitVec 8)
  (X3 : Cert.KernelIdeal.S6x16x151936.Idx → BitVec 8) (X4 : Cert.KernelIdeal.S6x151936.Idx → BitVec 16)
  (h0 : ∀ (r : Fin 256) (k : Fin 1536), X0 (ix2 r k) = a0 (ix3 0 r k))
  (h1 : ∀ (i : Fin 768) (J : Fin 151936), X1 (ix2 i J) = a1 (ix4 J ⟨i.val / 128, by omega⟩ ⟨i.val / 64 % 2, by omega⟩ ⟨i.val % 64, by omega⟩))
  (h2 : ∀ (i : Fin 384) (J : Fin 151936), X2 (ix2 i J) = a2 (ix4 J ⟨i.val / 64, by omega⟩ ⟨i.val / 32 % 2, by omega⟩ ⟨i.val % 32, by omega⟩))
  (h3 : ∀ (n : Fin 6) (s : Fin 16) (J : Fin 151936), X3 (ix3 n s J) = a3 (ix3 J n s))
  (h4 : ∀ (n : Fin 6) (J : Fin 151936), X4 (ix2 n J) = a4 (ix2 J n))
include h0 h1 h2 h3 h4

/-- An entry of the kernel's product. -/
theorem y_eq (r : Fin 256) (J : Fin 151936) : yG X0 X1 X2 X3 X4 r J = Yref a0 a1 a2 a3 a4 (ix2 r J) := by
  unfold Yref yG yE
  rw [yV_apply]
  simp only [h0, h1, h2, h3, h4, w_eq a1 a2 a3 a4]

/-- A scaled group maximum. -/
theorem z_eq (r : Fin 256) (g : Fin 1187) : zG X0 X1 X2 X3 X4 r g = zV (aV (Yref a0 a1 a2 a3 a4)) (ix2 r g) := by
  rw [zV_apply, aV_apply]
  unfold zG zE
  rw [lit_bot, lit_bot16]
  simp only [y_eq a0 a1 a2 a3 a4 X0 X1 X2 X3 X4 h0 h1 h2 h3 h4]
  have e : ∀ q : Fin 128, (⟨128 * g.val + q.val, by omega⟩ : Fin 151936) = ⟨g.val * 128 + q.val, by omega⟩ := fun q => Fin.ext (by show 128 * g.val + q.val = g.val * 128 + q.val; omega)
  simp only [e]
  rfl

end

end Cert.KernelIdeal.Hand
-- ==== Proof.RExp.lean ====
module

public import proofs.«01_k».proof.Proof.RPt

@[expose] public section

set_option maxRecDepth 100000

noncomputable section

namespace Cert.ReferenceIdeal.Hand

open Idealize.ShloMosaic Idealize.ShloMosaic.TcCoe Idealize.ShloMosaic.StableHlo
open Cert.ReferenceIdeal Cert.ReferenceIdeal.Gen

/-- The exponents of the list. -/
def kV : FVec Ideal S255 .f32 :=
  sitofp .f32 (addi (broadcastInDim S255 ![] bcast_S_S255 (constantI S_ 32 4294967169#32)) (iotaInDim S255 32 0))

/-- The list, for each group. -/
def lV (v94 : FVec Ideal S255 .f32) (v88 : FVec Ideal S256x1187 .f32) : FVec Ideal S256x1187x255 .f32 :=
  let v95 : FVec Ideal S255 .f32 := broadcastInDim S255 ![] bcast_S_S255 (constant (F := Ideal) S_ .f32 0x40000000#32)
  let v96 : FVec Ideal S255 .f32 := Host.powf v95 v94
  let v97 : FVec Ideal S256x1187x1 .f32 := broadcastInDim S256x1187x1 ![0, 1] bcast_S256x1187_S256x1187x1_0_1 v88
  let v98 : FVec Ideal S1x1x255 .f32 := broadcastInDim S1x1x255 ![2] bcast_S255_S1x1x255_2 v96
  let v99 : FVec Ideal S256x1187x255 .f32 := broadcastInDim S256x1187x255 ![0, 1, 2] bcast_S1x1x255_S256x1187x255_0_1_2 v98
  let v100 : FVec Ideal S256x1187x255 .f32 := broadcastInDim S256x1187x255 ![0, 1, 2] bcast_S256x1187x1_S256x1187x255_0_1_2 v97
  let v101 : IVec S256x1187x255 1 := cmpf .ole v99 v100
  select v101 (broadcastInDim S256x1187x255 ![2] bcast_S255_S256x1187x255_2 v94)
    (broadcastInDim S256x1187x255 ![] bcast_S_S256x1187x255 (id (constant (F := Ideal) S_ .f32 0xC2FE0000#32)))

/-- The largest of the list. -/
def mV (v102 : FVec Ideal S256x1187x255 .f32) : FVec Ideal S256x1187 .f32 :=
  Host.reduce FloatOps.maximumf v102 (constant (F := Ideal) S_ .f32 0xFF800000#32) reducesTo_S256x1187x255_S256x1187_d2 h_S_

/-- The exponents, from the largest of the list. -/
def fV (v86 v103 : FVec Ideal S256x1187 .f32) : FVec Ideal S256x1187 .f32 :=
  let v89 : FVec Ideal S256x1187 .f32 := broadcastInDim S256x1187 ![] bcast_S_S256x1187 (constant (F := Ideal) S_ .f32 0x00000000#32)
  let v90 : IVec S256x1187 1 := cmpf .oeq v86 v89
  let v105 : FVec Ideal S256x1187 .f32 := addf v103 (broadcastInDim S256x1187 ![] bcast_S_S256x1187 (constant (F := Ideal) S_ .f32 0x3F800000#32))
  select v90 (broadcastInDim S256x1187 ![] bcast_S_S256x1187 (sitofp .f32 (constantI S_ 32 0#32) : FVec Ideal S_ .f32)) v105

theorem eV_parts (a z : FVec Ideal S256x1187 .f32) : eV a z = fV a (mV (lV kV z)) := rfl

theorem lV_apply (v : FVec Ideal S255 .f32) (z : FVec Ideal S256x1187 .f32) (r : Fin 256) (g : Fin 1187) (k : Fin 255) :
    lV v z (ix3 r g k) = if Ideal.pow (Ideal.ofBits FTy.f32 1073741824#32) (v (ix1 k)) ≤ z (ix2 r g) then v (ix1 k)
      else Ideal.ofBits .f32 3271426048#32 := by
  unfold lV
  pointwise []
  try rfl

theorem kV_apply (k : Fin 255) : kV (ix1 k) = (FloatOps.sitofp FTy.f32 (IntOp.addi (4294967169#32) (BitVec.ofNat 32 k.val)) : Ideal .f32) := by
  unfold kV
  pointwise []

theorem mV_apply (l : FVec Ideal S256x1187x255 .f32) (r : Fin 256) (g : Fin 1187) :
    mV l (ix2 r g) = Finset.fold max (Ideal.ofBits FTy.f32 4286578688#32) (fun k : Fin 255 => l (ix3 r g k)) Finset.univ := by
  unfold mV
  pointwise []
  try rfl

theorem fV_apply (a v : FVec Ideal S256x1187 .f32) (r : Fin 256) (g : Fin 1187) :
    fV a v (ix2 r g) = if a (ix2 r g) = 0 then (FloatOps.sitofp FTy.f32 0#32 : Ideal .f32) else v (ix2 r g) + 1 := by
  unfold fV
  pointwise []

end Cert.ReferenceIdeal.Hand
-- ==== Proof.PExp.lean ====
module

public import proofs.«01_k».proof.Proof.KVal
public import proofs.«01_k».proof.Proof.PBits

@[expose] public section

noncomputable section

/-! The exponent that the kernel finds by halving, and the reference's, which is the largest of a list. -/

namespace Cert.KernelIdeal.Hand

open Idealize.ShloMosaic

/-- Whether the exponent field `j` is not too large for `z`. -/
def fits (z : EReal) (j : ℕ) : Prop := j = 0 ∨ (j < 255 ∧ (((2 : ℝ) ^ ((j : ℤ) - 127) : ℝ) : EReal) ≤ z)

theorem fits_mono (z : EReal) (i j : ℕ) (hij : i ≤ j) (h : fits z j) : fits z i := by
  rcases Nat.eq_zero_or_pos i with hi | hi
  · exact .inl hi
  · rcases h with h | ⟨h, h'⟩
    · omega
    · refine .inr ⟨by omega, le_trans ?_ h'⟩
      rw [EReal.coe_le_coe_iff]
      exact zpow_le_zpow_right₀ (by norm_num) (by omega)

theorem shl_field (e : ℕ) (he : e < 256) : IntOp.shli .vector (BitVec.ofNat 32 e) 23#32 = BitVec.ofNat 32 (e * 8388608) := by
  show BitVec.ofNat 32 e <<< 23 = _
  apply BitVec.eq_of_toNat_eq
  rw [BitVec.toNat_shiftLeft, BitVec.toNat_ofNat, BitVec.toNat_ofNat, Nat.shiftLeft_eq, Nat.mod_eq_of_lt (by omega : e < 2 ^ 32)]

theorem stp_eq (z : EReal) (hz : z < ⊤) (s e : ℕ) (hs : 0 < s) (h : e + s < 256) :
    ∃ e', stp z (BitVec.ofNat 32 s) (BitVec.ofNat 32 e) = BitVec.ofNat 32 e' ∧ ((e' = e + s ∧ fits z (e + s)) ∨ (e' = e ∧ ¬ fits z (e + s))) := by
  have ha : IntOp.addi (BitVec.ofNat 32 e) (BitVec.ofNat 32 s) = BitVec.ofNat 32 (e + s) := (BitVec.ofNat_add e s).symm
  have key : (Ideal.ofBits .f32 (BitVec.ofNat 32 ((e + s) * 8388608)) ≤ z) ↔ fits z (e + s) := by
    by_cases h5 : e + s = 255
    · rw [h5]
      have ht := ofBits_ones_pos 0 (by norm_num)
      rw [Nat.add_zero, if_pos rfl] at ht
      rw [ht]
      constructor
      · intro h6; exact absurd (top_le_iff.mp h6) hz.ne
      · rintro (h6 | ⟨h6, -⟩) <;> omega
    · rw [ofBits_two (e + s) (by omega) (by omega)]
      constructor
      · intro h6; exact .inr ⟨by omega, h6⟩
      · rintro (h6 | ⟨-, h6⟩)
        · omega
        · exact h6
  unfold stp
  rw [ha, shl_field _ h]
  by_cases hf : fits z (e + s)
  · refine ⟨e + s, ?_, .inl ⟨rfl, hf⟩⟩
    have : FloatOps.cmpf (F := Ideal) (φ := .f32) .oge z (Ideal.ofBits .f32 (BitVec.ofNat 32 ((e + s) * 8388608))) = 1 := by
      show BitVec.ofBool (decide (_ ≤ z)) = 1
      rw [decide_eq_true (key.mpr hf)]; rfl
    rw [this]; rfl
  · refine ⟨e, ?_, .inr ⟨rfl, hf⟩⟩
    have : FloatOps.cmpf (F := Ideal) (φ := .f32) .oge z (Ideal.ofBits .f32 (BitVec.ofNat 32 ((e + s) * 8388608))) = 0 := by
      show BitVec.ofBool (decide (_ ≤ z)) = 0
      rw [decide_eq_false (fun h => hf (key.mp h))]; rfl
    rw [this]; rfl

theorem stp_step (z : EReal) (hz : z < ⊤) (s : ℕ) (hs : 0 < s) (E : BitVec 32)
    (h : ∃ e, E = BitVec.ofNat 32 e ∧ e + 2 * s ≤ 256 ∧ fits z e ∧ ¬ fits z (e + 2 * s)) :
    ∃ e, stp z (BitVec.ofNat 32 s) E = BitVec.ofNat 32 e ∧ e + s ≤ 256 ∧ fits z e ∧ ¬ fits z (e + s) := by
  obtain ⟨e, rfl, h1, h2, h3⟩ := h
  obtain ⟨e', h4, ⟨rfl, h5⟩ | ⟨rfl, h5⟩⟩ := stp_eq z hz s e hs (by omega)
  · exact ⟨_, h4, by omega, h5, by rwa [show e + s + s = e + 2 * s by ring]⟩
  · exact ⟨_, h4, by omega, h2, h5⟩

/-- The kernel's search ends at the largest exponent field that fits. -/
theorem search (z : EReal) (hz : z < ⊤) : ∃ e,
    stp z 1#32 (stp z 2#32 (stp z 4#32 (stp z 8#32 (stp z 16#32 (stp z 32#32 (stp z 64#32 (stp z 128#32 0#32))))))) = BitVec.ofNat 32 e
      ∧ e + 1 ≤ 256 ∧ fits z e ∧ ¬ fits z (e + 1) := by
  have h0 : ∃ e, (0#32) = BitVec.ofNat 32 e ∧ e + 2 * 128 ≤ 256 ∧ fits z e ∧ ¬ fits z (e + 2 * 128) :=
    ⟨0, rfl, by omega, .inl rfl, by rintro (h | ⟨h, -⟩) <;> omega⟩
  have h1 := stp_step z hz 128 (by omega) _ h0
  have h2 := stp_step z hz 64 (by omega) _ h1
  have h3 := stp_step z hz 32 (by omega) _ h2
  have h4 := stp_step z hz 16 (by omega) _ h3
  have h5 := stp_step z hz 8 (by omega) _ h4
  have h6 := stp_step z hz 4 (by omega) _ h5
  have h7 := stp_step z hz 2 (by omega) _ h6
  exact stp_step z hz 1 (by omega) _ h7

/-- The largest of the exponents that fit, as the reference finds it. -/
theorem fold_exp (z : EReal) (e : ℕ) (he : e < 255) (h : fits z e) (h' : ¬ fits z (e + 1)) (T : Fin 255 → EReal)
    (hT : ∀ k : Fin 255, T k = if (((2 : ℝ) ^ ((k.val : ℤ) - 127) : ℝ) : EReal) ≤ z then (((k.val : ℝ) - 127 : ℝ) : EReal) else ((-127 : ℝ) : EReal)) :
    Finset.fold max (⊥ : EReal) T Finset.univ = (((e : ℝ) - 127 : ℝ) : EReal) := by
  apply le_antisymm
  · rw [Finset.fold_max_le]
    refine ⟨bot_le, fun k _ => ?_⟩
    rw [hT]
    split
    · rename_i hk
      rw [EReal.coe_le_coe_iff]
      by_contra hc
      rw [not_le] at hc
      have : (e : ℝ) < k.val := by linarith
      have : e < k.val := by exact_mod_cast this
      exact h' (fits_mono z (e + 1) k.val (by omega) (.inr ⟨k.isLt, hk⟩))
    · rw [EReal.coe_le_coe_iff]
      have : (0 : ℝ) ≤ e := Nat.cast_nonneg e
      linarith
  · rw [Finset.le_fold_max]
    refine .inr ⟨⟨e, he⟩, Finset.mem_univ _, ?_⟩
    rw [hT]
    rcases h with rfl | ⟨-, h⟩
    · split <;> norm_num
    · rw [if_pos h]

end Cert.KernelIdeal.Hand
-- ==== Proof.PGrp.lean ====
module

public import proofs.«01_k».proof.Proof.RExp
public import proofs.«01_k».proof.Proof.PExp

@[expose] public section

noncomputable section

/-! The codes and scales of a group, from its scaled maximum. -/

namespace Cert.KernelIdeal.Hand

open Idealize.ShloMosaic
open Cert.ReferenceIdeal Cert.ReferenceIdeal.Hand

theorem bits_add : ∀ e : Fin 253, IntOp.addi 127#32 (IntOp.subi (BitVec.ofNat 32 e.val) 126#32) = BitVec.ofNat 32 (e.val + 1) := by
  decide +kernel
theorem bits_sub : ∀ e : Fin 253, IntOp.subi 127#32 (IntOp.subi (BitVec.ofNat 32 e.val) 126#32) = BitVec.ofNat 32 (253 - e.val) := by
  decide +kernel
theorem bits_list : ∀ k : Fin 255, (IntOp.addi (4294967169#32) (BitVec.ofNat 32 k.val)).toInt = (k.val : ℤ) - 127 := by
  decide +kernel

theorem kV_int (k : Fin 255) : kV (ix1 k) = ((((k.val : ℤ) - 127 : ℤ) : ℝ) : EReal) := by
  rw [kV_apply]
  show (((IntOp.addi (4294967169#32) (BitVec.ofNat 32 k.val)).toInt : ℝ) : EReal) = _
  rw [bits_list]

theorem lit_m127 : Ideal.ofBits .f32 3271426048#32 = ((-127 : ℝ) : EReal) := by
  have h := ofBits_neg 133 8257536 (by norm_num) (by norm_num) (by norm_num)
  norm_num at h
  rw [h]; norm_num

theorem lit_cap : Ideal.ofBits .f32 2122317824#32 = (((2 : ℝ) ^ (126 : ℤ) : ℝ) : EReal) := by
  have h := ofBits_two 253 (by norm_num) (by norm_num)
  norm_num at h
  rw [h]; norm_num

theorem lit_c : ∃ c : ℝ, 0 < c ∧ Ideal.ofBits .f32 0x3B124925#32 = (c : EReal) := by
  have h := ofBits_pos 118 1198373 (by norm_num) (by norm_num) (by norm_num)
  norm_num at h
  exact ⟨_, by norm_num, h⟩

/-- The exponent of a group's scale: the same in the two programs, where the scaled maximum is less than 2 ^ 126. -/
theorem exp_eq (y : FVec Ideal S256x151936 .bf16) (r : Fin 256) (g : Fin 1187) (hz : zV (aV y) (ix2 r g) < (((2 : ℝ) ^ (126 : ℤ) : ℝ) : EReal)) :
    ∃ e : Fin 253, eK (zV (aV y) (ix2 r g)) = IntOp.subi (BitVec.ofNat 32 e.val) 126#32 ∧ Er y (ix2 r g) = ((((e.val : ℤ) - 126 : ℤ) : ℝ) : EReal) := by
  unfold Er
  rw [eV_parts, fV_apply, mV_apply, lit_bot]
  have hlist : ∀ k : Fin 255, lV kV (zV (aV y)) (ix3 r g k)
      = if (((2 : ℝ) ^ ((k.val : ℤ) - 127) : ℝ) : EReal) ≤ zV (aV y) (ix2 r g) then (((k.val : ℝ) - 127 : ℝ) : EReal) else ((-127 : ℝ) : EReal) := fun k => by
    rw [lV_apply, kV_int, lit_two, pow_two, lit_m127]
    push_cast
    rfl
  have hza := zV_apply (aV y) r g
  have ha : (0 : EReal) ≤ aV y (ix2 r g) := by
    rw [aV_apply, Finset.le_fold_max]
    refine .inr ⟨0, Finset.mem_univ _, ?_⟩
    show (0 : EReal) ≤ max _ (-_)
    rcases le_total (0 : EReal) (y (ix2 r ⟨g.val * 128 + (0 : Fin 128).val, by omega⟩)) with h | h
    · exact le_max_of_le_left h
    · exact le_max_of_le_right (EReal.neg_nonneg.mpr h)
  obtain ⟨c, hc, hc'⟩ := lit_c
  rw [hc'] at hza
  generalize zV (aV y) = Z at hz hlist hza ⊢
  generalize Z (ix2 r g) = z at hz hlist hza ⊢
  generalize aV y (ix2 r g) = a at ha hza ⊢
  have hzero : a = 0 ↔ z = 0 := by
    rw [hza, mul_eq_zero]
    constructor
    · exact .inl
    · rintro (h | h)
      · exact h
      · exact absurd (EReal.coe_eq_zero.mp h) hc.ne'
  by_cases a0 : a = 0
  · refine ⟨126, ?_, ?_⟩
    · unfold eK
      have : FloatOps.cmpf (F := Ideal) (φ := .f32) .oeq z (Ideal.ofBits .f32 0#32) = 1 := by
        show BitVec.ofBool (decide (z = _)) = 1
        rw [Ideal.ofBits_zero_f32, decide_eq_true (hzero.mp a0)]; rfl
      rw [this]; rfl
    · rw [if_pos a0]
      show (((0#32 : BitVec 32).toInt : ℝ) : EReal) = _
      norm_num
  · have z0 : z ≠ 0 := fun h => a0 (hzero.mpr h)
    obtain ⟨e, h1, -, h2, h3⟩ := search z (lt_of_lt_of_le hz le_top)
    have he : e < 253 := by
      by_contra hc
      rcases fits_mono z 253 e (by omega) h2 with h | ⟨-, h⟩
      · omega
      · exact absurd (lt_of_le_of_lt h hz) (by norm_num)
    refine ⟨⟨e, he⟩, ?_, ?_⟩
    · unfold eK
      have : FloatOps.cmpf (F := Ideal) (φ := .f32) .oeq z (Ideal.ofBits .f32 0#32) = 0 := by
        show BitVec.ofBool (decide (z = _)) = 0
        rw [Ideal.ofBits_zero_f32, decide_eq_false z0]; rfl
      rw [this, h1]; rfl
    · rw [if_neg a0, fold_exp z e (by omega) h2 h3 _ hlist, show (1 : EReal) = ((1 : ℝ) : EReal) from rfl, ← EReal.coe_add]
      congr 1
      push_cast
      ring

theorem scale_eq (y : FVec Ideal S256x151936 .bf16) (r : Fin 256) (g : Fin 1187) (hz : zV (aV y) (ix2 r g) < (((2 : ℝ) ^ (126 : ℤ) : ℝ) : EReal)) :
    scaleK (zV (aV y) (ix2 r g)) = sV (Er y) (ix3 0 r g) := by
  obtain ⟨e, h1, h2⟩ := exp_eq y r g hz
  unfold scaleK
  rw [sV_apply, h2, h1, bits_add, shl_field _ (by omega), ofBits_two _ (by omega) (by omega), lit_two, pow_two]
  have : (((e.val + 1 : ℕ) : ℤ) - 127) = (e.val : ℤ) - 126 := by omega
  rw [this]

theorem code_eq (y : FVec Ideal S256x151936 .bf16) (r : Fin 256) (J : Fin 151936)
    (hz : zV (aV y) (ix2 r ⟨J.val / 128, by omega⟩) < (((2 : ℝ) ^ (126 : ℤ) : ℝ) : EReal)) :
    codeK (zV (aV y) (ix2 r ⟨J.val / 128, by omega⟩)) (y (ix2 r J)) = cV y (Er y) (ix2 r J) := by
  obtain ⟨e, h1, h2⟩ := exp_eq y r ⟨J.val / 128, by omega⟩ hz
  unfold codeK
  rw [cV_apply, h2, h1, bits_sub, shl_field _ (by omega), ofBits_two _ (by omega) (by omega), ← EReal.coe_neg, ← Int.cast_neg, lit_two, pow_two]
  have : (((253 - e.val : ℕ) : ℤ) - 127) = -((e.val : ℤ) - 126) := by omega
  rw [this]

end Cert.KernelIdeal.Hand
-- ==== Proof.lean ====
module

public import proofs.«01_k».proof.Defs
public import proofs.«01_k».proof.Proof.KernelFrame
public import proofs.«01_k».proof.Proof.KernelIdealFrame
public import proofs.«01_k».proof.Proof.KEnd
public import proofs.«01_k».proof.Proof.KHost
public import proofs.«01_k».proof.Proof.RRead
public import proofs.«01_k».proof.Proof.PWt
public import proofs.«01_k».proof.Proof.PGrp
public import Idealize.ShloMosaic.Lib.Bf16Pair
public import Idealize.ShloMosaic.Lib.Bf16PairInverse

@[expose] public section

noncomputable section

namespace Cert.Proof

open Idealize.ShloMosaic Idealize.SL.Sem

/-- The rewrites of the idealization, one statement per kind and shape. -/
theorem preserves : Cert.preserves_Kernel_KernelIdeal :=
  open Cert.KernelIdeal IdealRules.bf16_pair in
  ⟨bufferStatement S96x2x1024 S96x1x1024, packStatement S16x256, statement S16x2x256 S16x1x256,
    statement S8x2x256 S8x1x256, statement S16x256 S8x256⟩

section
open Cert.KernelIdeal Cert.KernelIdeal.Hand
open Cert.ReferenceIdeal.Hand (yV wV qV hV zV aV cV sV Er mC mS)
variable (m : (ℓ : Loc nD τ sig) → Buf (Elt Ideal) ℓ) (c : Dev nD)

/-- The reference's product from the kernel's arguments. -/
def Y : Cert.ReferenceIdeal.S256x151936.Idx → EReal :=
  Yref (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem product (r : Fin 256) (J : Fin 151936) :
    yG (Gen.V m c main_v6) (Gen.V m c main_v1) (Gen.V m c main_v3) (Gen.V m c main_v4) (Gen.V m c main_v5) r J = Y m c (ix2 r J) :=
  y_eq _ _ _ _ _ _ _ _ _ _ (host_x m c) (host_ql m c) (host_qh m c) (host_sc m c) (host_d m c) r J

theorem maximum (r : Fin 256) (g : Fin 1187) :
    zG (Gen.V m c main_v6) (Gen.V m c main_v1) (Gen.V m c main_v3) (Gen.V m c main_v4) (Gen.V m c main_v5) r g = zV (aV (Y m c)) (ix2 r g) :=
  z_eq _ _ _ _ _ _ _ _ _ _ (host_x m c) (host_ql m c) (host_qh m c) (host_sc m c) (host_d m c) r g

theorem products : HY m c = Y m c := by
  funext i
  have hi : i = ix2 (i 0) (i 1) := by funext a; fin_cases a <;> rfl
  exact (product m c (i 0) (i 1)).trans (congrArg (Y m c) hi.symm)

theorem below (z : EReal) (h : BitVec.ofBool (decide (z < Ideal.ofBits .f32 2122317824#32)) = 1#1) : z < (((2 : ℝ) ^ (126 : ℤ) : ℝ) : EReal) := by
  rw [lit_cap] at h
  by_contra hn
  rw [decide_eq_false hn] at h
  exact absurd h (by decide)

theorem codes (i : S256x151936.Idx) (h : mC (zV (aV (Y m c))) i = 1#1) : HC m c i = cV (Y m c) (Er (Y m c)) i := by
  have hi : i = ix2 (i 0) (i 1) := by funext a; fin_cases a <;> rfl
  have h' := (Cert.ReferenceIdeal.Hand.mC_apply (zV (aV (Y m c))) (i 0) (i 1)).symm.trans ((congrArg (mC (zV (aV (Y m c)))) hi.symm).trans h)
  refine Eq.trans ?_ ((code_eq (Y m c) (i 0) (i 1) (below _ h')).trans (congrArg (cV (Y m c) (Er (Y m c))) hi.symm))
  exact congrArg₂ codeK (maximum m c (i 0) _) (product m c (i 0) (i 1))

theorem scales (i : S1x256x1187.Idx) (h : mS (zV (aV (Y m c))) i = 1#1) : HT m c i = sV (Er (Y m c)) i := by
  have hi : i = ix3 0 (i 1) (i 2) := by
    funext a
    match a with
    | ⟨0, _⟩ => exact Fin.ext (by have : (i 0).val < 1 := (i 0).isLt; show (i 0).val = 0; omega)
    | ⟨1, _⟩ => rfl
    | ⟨2, _⟩ => rfl
  have h' := (Cert.ReferenceIdeal.Hand.mS_apply (zV (aV (Y m c))) (i 1) (i 2)).symm.trans ((congrArg (mS (zV (aV (Y m c)))) hi.symm).trans h)
  refine Eq.trans ?_ ((scale_eq (Y m c) (i 1) (i 2) (below _ h')).trans (congrArg (sV (Er (Y m c))) hi.symm))
  exact (congrArg (HT m c) hi).trans ((HT_apply m c (i 1) (i 2)).trans (congrArg scaleK (maximum m c (i 1) (i 2))))

end

/-- The idealization leaves the reference's results. -/
theorem algebraic : Cert.algebraic_KernelIdeal_ReferenceIdeal_on_in_range := by
  intro m g m' g' _ hm
  have hY : ∀ c, Cert.ReferenceIdeal.Hand.Yr m' c = Y m c := by
    intro c
    obtain ⟨e0, e1, e2, e3, e4⟩ := hm c
    show Cert.KernelIdeal.Hand.Yref (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [e0, e1, e2, e3, e4]
    rfl
  refine ⟨Cert.KernelIdeal.Hand.HY m, Cert.KernelIdeal.Hand.HC m, Cert.KernelIdeal.Hand.HT m, ?_, ?_⟩
  · refine (θ_run _ _ _).mono (fun r h c => ?_) (Cert.KernelIdeal.Hand.run_values m g)
    obtain ⟨h0, h1, h2, h3⟩ := h c
    exact ⟨fun i _ => congrFun h0 i, fun i _ => congrFun h1 i, fun i _ => congrFun h2 i, h3⟩
  · refine (θ_run _ _ _).mono (fun r h c => ?_) (Cert.ReferenceIdeal.Hand.ref_values m' g')
    obtain ⟨h0, h1, h2, h3⟩ := h c
    rw [hY c] at h0 h1 h2
    rw [Cert.ReferenceIdeal.Hand.mask_eq]
    exact ⟨fun i _ => (congrFun h0 i).trans (congrFun (products m c) i).symm,
      fun i hi => (congrFun h1 i).trans (codes m c i hi).symm,
      fun i hi => (congrFun h2 i).trans (scales m c i hi).symm, h3⟩

theorem claim : Cert.Claim := ⟨Cert.Kernel.Gen.facts, Cert.KernelIdeal.Gen.facts, Cert.ReferenceIdeal.Gen.facts, Cert.On_in_range.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
